-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_moe_tables : Cert.Pre_moe_tables.Facts] (m : (ℓ : Loc Cert.Moe.nD Cert.Moe.τ Cert.Moe.sig) → Buf (Elt Bits) ℓ) : Prop :=
  ∀ c : Dev Cert.Moe.nD,
    (Cert.Pre_moe_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_moe_tables : Cert.Pre_moe_tables.Facts] (m : (ℓ : Loc Cert.MoeIdeal.nD Cert.MoeIdeal.τ Cert.MoeIdeal.sig) → Buf (Elt Ideal) ℓ) : Prop :=
  ∀ c : Dev Cert.MoeIdeal.nD,
    (Cert.Pre_moe_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal [hPre_moe_tables : Cert.Pre_moe_tables.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_moe_tables.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Moe [hMoe : Cert.Moe.Facts] [hPre_moe_tables : Cert.Pre_moe_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_moe_tables : Cert.Pre_moe_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] [hPre_moe_tables : Cert.Pre_moe_tables.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_v37) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Moe_MoeIdeal : Prop :=
  True

def algebraic_MoeIdeal_MoeReferenceIdeal_on_moe_filled_rows [hMoeIdeal : Cert.MoeIdeal.Facts] [hMoeReferenceIdeal : Cert.MoeReferenceIdeal.Facts] [hPre_moe_tables : Cert.Pre_moe_tables.Facts] [hOn_moe_filled_rows : Cert.On_moe_filled_rows.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![35840, 1024]⟩ : Shape).Idx, (Cert.On_moe_filled_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeIdeal.nD Cert.MoeIdeal.τ).loc Cert.MoeIdeal.main_v3) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          (∀ i : (⟨2, ![35840, 1024]⟩ : Shape).Idx, (Cert.On_moe_filled_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeReferenceIdeal.nD Cert.MoeReferenceIdeal.τ).loc Cert.MoeReferenceIdeal.main_v65) i = v0 c i)
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)
      ∧ m' ((c.tc : Thread Cert.MergeReferenceIdeal.nD Cert.MergeReferenceIdeal.τ).loc Cert.MergeReferenceIdeal.main_arg19) = m ((c.tc : Thread Cert.MergeIdeal.nD Cert.MergeIdeal.τ).loc Cert.MergeIdeal.main_arg19)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14_0) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v70) = v0 c
          ∧ r.2.mem ((c.tc : Thread Cert.MergeReferenceIdeal.nD Cert.MergeReferenceIdeal.τ).loc Cert.MergeReferenceIdeal.main_v140) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18)
          ∧ r.2.mem ((c.tc : Thread Cert.MergeReferenceIdeal.nD Cert.MergeReferenceIdeal.τ).loc Cert.MergeReferenceIdeal.main_arg19) = m' ((c.tc : Thread Cert.MergeReferenceIdeal.nD Cert.MergeReferenceIdeal.τ).loc Cert.MergeReferenceIdeal.main_arg19))

def Claim : Prop :=
  ∃ (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hMerge : Cert.Merge.Facts) (hMergeIdeal : Cert.MergeIdeal.Facts) (hMergeReferenceIdeal : Cert.MergeReferenceIdeal.Facts) (hPre_moe_tables : Cert.Pre_moe_tables.Facts) (hOn_moe_filled_rows : Cert.On_moe_filled_rows.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_moe_tables := hPre_moe_tables)
    ∧ quiescent_MoeIdeal (hMoeIdeal := hMoeIdeal) (hPre_moe_tables := hPre_moe_tables)
    ∧ quiescent_MoeReferenceIdeal (hMoeReferenceIdeal := hMoeReferenceIdeal) (hPre_moe_tables := hPre_moe_tables)
    ∧ quiescent_Merge (hMerge := hMerge)
    ∧ quiescent_MergeIdeal (hMergeIdeal := hMergeIdeal)
    ∧ quiescent_MergeReferenceIdeal (hMergeReferenceIdeal := hMergeReferenceIdeal)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal_on_moe_filled_rows (hMoeIdeal := hMoeIdeal) (hMoeReferenceIdeal := hMoeReferenceIdeal) (hPre_moe_tables := hPre_moe_tables) (hOn_moe_filled_rows := hOn_moe_filled_rows)
    ∧ preserves_Merge_MergeIdeal
    ∧ algebraic_MergeIdeal_MergeReferenceIdeal (hMergeIdeal := hMergeIdeal) (hMergeReferenceIdeal := hMergeReferenceIdeal)
-- ==== On_moe_filled_rows.lean ====
abbrev S35840x512 : Shape := ⟨2, ![35840, 512]⟩
abbrev S140 : Shape := ⟨1, ![140]⟩
abbrev S1 : Shape := ⟨1, ![1]⟩
abbrev S8x1024x3584 : Shape := ⟨3, ![8, 1024, 3584]⟩
abbrev S8x3584x1024 : Shape := ⟨3, ![8, 3584, 1024]⟩
abbrev S35840x1024 : Shape := ⟨2, ![35840, 1024]⟩
abbrev S_ : Shape := ⟨0, ![]⟩
abbrev S1x1 : Shape := ⟨2, ![1, 1]⟩

class Facts : Prop where
  bcast_S_S1 : S_.BroadcastsInDim S1 (![] : Fin 0 → Fin S1.rank)
  bcast_S1_S1x1_1 : S1.BroadcastsInDim S1x1 (![1] : Fin 1 → Fin S1x1.rank)
  bcast_S1x1_S35840x1024_0_1 : S1x1.BroadcastsInDim S35840x1024 (![0, 1] : Fin 2 → Fin S35840x1024.rank)

variable [Facts]

def fn {F : FTy → Type} [FloatOps F] (main_arg0 : IVec S35840x512 32) (main_arg1 : IVec S140 32) (main_arg2 : IVec S1 32) (main_arg3 : FVec F S8x1024x3584 .f32) (main_arg4 : FVec F S8x1024x3584 .f32) (main_arg5 : FVec F S8x3584x1024 .f32) : IVec S35840x1024 1 :=
  let main_v0 : IVec S35840x1024 32 := iotaInDim S35840x1024 32 0
  let main_c : IVec S_ 32 := constantI S_ 32 256#32
  let main_v1 : IVec S1 32 := broadcastInDim S1 ![] bcast_S_S1 main_c
  let main_v2 : IVec S1 32 := muli main_arg2 main_v1
  let main_v3 : IVec S1x1 32 := broadcastInDim S1x1 ![1] bcast_S1_S1x1_1 main_v2
  let main_v4 : IVec S35840x1024 32 := broadcastInDim S35840x1024 ![0, 1] bcast_S1x1_S35840x1024_0_1 main_v3
  let main_v5 : IVec S35840x1024 1 := cmpi .slt main_v0 main_v4
  main_v5
-- ==== Pre_moe_tables.lean ====
abbrev S35840x512 : Shape := ⟨2, ![35840, 512]⟩
abbrev S140 : Shape := ⟨1, ![140]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S140 : S_.BroadcastsInDim S140 (![] : Fin 0 → Fin S140.rank)
  bcast_S_S1 : S_.BroadcastsInDim S1 (![] : Fin 0 → Fin S1.rank)
  bcast_S1_S140_0 : S1.BroadcastsInDim S140 (![0] : Fin 1 → Fin S140.rank)

variable [Facts]

def fn {F : FTy → Type} [FloatOps F] (main_arg0 : IVec S35840x512 32) (main_arg1 : IVec S140 32) (main_arg2 : IVec S1 32) (main_arg3 : FVec F S8x1024x3584 .f32) (main_arg4 : FVec F S8x1024x3584 .f32) (main_arg5 : FVec F S8x3584x1024 .f32) : IVec S140 1 :=
  let main_c : IVec S_ 32 := constantI S_ 32 0#32
  let main_v0 : IVec S140 32 := broadcastInDim S140 ![] bcast_S_S140 main_c
  let main_v1 : IVec S140 1 := cmpi .sge main_arg1 main_v0
  let main_c_0 : IVec S_ 32 := constantI S_ 32 8#32
  let main_v2 : IVec S140 32 := broadcastInDim S140 ![] bcast_S_S140 main_c_0
  let main_v3 : IVec S140 1 := cmpi .slt main_arg1 main_v2
  let main_v4 : IVec S140 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S140 1 := broadcastInDim S140 ![0] bcast_S1_S140_0 main_v6
  let main_v8 : IVec S140 1 := andi main_v4 main_v7
  let main_c_2 : IVec S_ 32 := constantI S_ 32 140#32
  let main_v9 : IVec S1 32 := broadcastInDim S1 ![] bcast_S_S1 main_c_2
  let main_v10 : IVec S1 1 := cmpi .sle main_arg2 main_v9
  let main_v11 : IVec S140 1 := broadcastInDim S140 ![0] bcast_S1_S140_0 main_v10
  let main_v12 : IVec S140 1 := andi main_v8 main_v11
  main_v12
-- ==== Ffn.lean ====
abbrev S16384x1024 : Shape := ⟨2, ![16384, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .hbm, ⟨11, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v33 : BitVec 32 := Scalar.extui v0
  let c0_i32 : BitVec 32 := 0#32
  let v34 : BitVec 1 := Scalar.cmpi .ne v33 c0_i32
  v34

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v35 : BitVec 1 := Scalar.xori v0 v_true
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16384x1024 : Shape := ⟨2, ![16384, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S512 : Shape := ⟨1, ![512]⟩
abbrev S512x1 : Shape := ⟨2, ![512, 1]⟩
abbrev S512x2816 : Shape := ⟨2, ![512, 2816]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S512x1024, .f32⟩
  | .hbm, ⟨37, _⟩ => ⟨S_, .f32⟩
  | .hbm, ⟨38, _⟩ => ⟨S512, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x1024, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | .hbm, ⟨52, _⟩ => ⟨S512x2816, .f32⟩
  | .hbm, ⟨53, _⟩ => ⟨S512x2816, .f32⟩
  | .hbm, ⟨54, _⟩ => ⟨S512x2816, .f32⟩
  | .hbm, ⟨55, _⟩ => ⟨S_, .f32⟩
  | .hbm, ⟨56, _⟩ => ⟨S512x2816, .f32⟩
  | .hbm, ⟨57, _⟩ => ⟨S512x2816, .f32⟩
  | .hbm, ⟨58, _⟩ => ⟨S_, .f32⟩
  | .hbm, ⟨59, _⟩ => ⟨S512x2816, .f32⟩
  | .hbm, ⟨60, _⟩ => ⟨S512x2816, .f32⟩
  | .hbm, ⟨61, _⟩ => ⟨S512x2816, .f32⟩
  | .hbm, ⟨62, _⟩ => ⟨S512x2816, .f32⟩
  | .hbm, ⟨63, _⟩ => ⟨S512x2816, .f32⟩
  | .hbm, ⟨64, _⟩ => ⟨S512x1024, .f32⟩
  | .hbm, ⟨65, _⟩ => ⟨S512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== Moe.lean ====
abbrev S35840x512 : Shape := ⟨2, ![35840, 512]⟩
abbrev S140 : Shape := ⟨1, ![140]⟩
abbrev S1 : Shape := ⟨1, ![1]⟩
abbrev S8x1024x3584 : Shape := ⟨3, ![8, 1024, 3584]⟩
abbrev S8x3584x1024 : Shape := ⟨3, ![8, 3584, 1024]⟩
abbrev S35840x1024 : Shape := ⟨2, ![35840, 1024]⟩
abbrev S256x512 : Shape := ⟨2, ![256, 512]⟩
abbrev S1x1024x3584 : Shape := ⟨3, ![1, 1024, 3584]⟩
abbrev S1x3584x1024 : Shape := ⟨3, ![1, 3584, 1024]⟩
abbrev S256x1024 : Shape := ⟨2, ![256, 1024]⟩
abbrev S1024x3584 : Shape := ⟨2, ![1024, 3584]⟩
abbrev S3584x1024 : Shape := ⟨2, ![3584, 1024]⟩
abbrev S256x3584 : Shape := ⟨2, ![256, 3584]⟩

abbrev nBuf : Space → Nat
  | .hbm => 8
  | .vmem => 10
  | .smem => 2
  | _ => 0

abbrev bufTy : (tb : Table) → Fin (tcTables nBuf tb) → BufTy
  | .hbm, ⟨0, _⟩ => ⟨S35840x512, .i32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S35840x1024, .bf16⟩
  | .local _ .vmem, ⟨0, _⟩ => ⟨S256x512, .i32⟩
  | .local _ .vmem, ⟨1, _⟩ => ⟨S256x512, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S256x1024, .bf16⟩
  | .local _ .vmem, ⟨9, _⟩ => ⟨S256x1024, .bf16⟩
  | .local _ .smem, ⟨0, _⟩ => ⟨S140, .i32⟩
  | .local _ .smem, ⟨1, _⟩ => ⟨S1, .i32⟩
  | _, _ => ⟨S35840x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![140], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeReferenceIdeal.lean ====
abbrev S35840x512 : Shape := ⟨2, ![35840, 512]⟩
abbrev S140 : Shape := ⟨1, ![140]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩
abbrev S35840x1024 : Shape := ⟨2, ![35840, 1024]⟩
abbrev S140x256x1024 : Shape := ⟨3, ![140, 256, 1024]⟩
abbrev S140x1 : Shape := ⟨2, ![140, 1]⟩
abbrev S140x3 : Shape := ⟨2, ![140, 3]⟩
abbrev S140x1x1024x3584 : Shape := ⟨4, ![140, 1, 1024, 3584]⟩
abbrev S140x1024x3584 : Shape := ⟨3, ![140, 1024, 3584]⟩
abbrev S140x1x3584x1024 : Shape := ⟨4, ![140, 1, 3584, 1024]⟩
abbrev S140x3584x1024 : Shape := ⟨3, ![140, 3584, 1024]⟩
abbrev S140x256x3584 : Shape := ⟨3, ![140, 256, 3584]⟩

abbrev nBuf : Space → Nat
  | .hbm => 118
  | .vmem => 0
  | .smem => 0
  | _ => 0

abbrev bufTy : (tb : Table) → Fin (tcTables nBuf tb) → BufTy
  | .hbm, ⟨0, _⟩ => ⟨S35840x512, .i32⟩
  | .hbm, ⟨1, _⟩ => ⟨S140, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S_, .i32⟩
  | .hbm, ⟨7, _⟩ => ⟨S35840x512, .i32⟩
  | .hbm, ⟨8, _⟩ => ⟨S35840x512, .i32⟩
  | .hbm, ⟨9, _⟩ => ⟨S35840x512, .f32⟩
  | .hbm, ⟨10, _⟩ => ⟨S_, .i32⟩
  | .hbm, ⟨11, _⟩ => ⟨S35840x512, .i32⟩
  | .hbm, ⟨12, _⟩ => ⟨S35840x512, .i32⟩
  | .hbm, ⟨13, _⟩ => ⟨S35840x512, .f32⟩
  | .hbm, ⟨14, _⟩ => ⟨S35840x1024, .f32⟩
  | .hbm, ⟨15, _⟩ => ⟨S140x256x1024, .f32⟩
  | .hbm, ⟨16, _⟩ => ⟨S_, .i32⟩
  | .hbm, ⟨17, _⟩ => ⟨S140, .i32⟩
  | .hbm, ⟨18, _⟩ => ⟨S140, .i1⟩
  | .hbm, ⟨19, _⟩ => ⟨S_, .i32⟩
  | .hbm, ⟨20, _⟩ => ⟨S140, .i32⟩
  | .hbm, ⟨21, _⟩ => ⟨S140, .i32⟩
  | .hbm, ⟨22, _⟩ => ⟨S140, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S140x1, .i32⟩
  | .hbm, ⟨40, _⟩ => ⟨S140x1, .i32⟩
  | .hbm, ⟨41, _⟩ => ⟨S140x1, .i32⟩
  | .hbm, ⟨42, _⟩ => ⟨S140x3, .i32⟩
  | .hbm, ⟨43, _⟩ => ⟨S140x1x1024x3584, .f32⟩
  | .hbm, ⟨44, _⟩ => ⟨S140x1024x3584, .f32⟩
  | .hbm, ⟨45, _⟩ => ⟨S_, .i32⟩
  | .hbm, ⟨46, _⟩ => ⟨S140, .i32⟩
  | .hbm, ⟨47, _⟩ => ⟨S140, .i1⟩
  | .hbm, ⟨48, _⟩ => ⟨S_, .i32⟩
  | .hbm, ⟨49, _⟩ => ⟨S140, .i32⟩
  | .hbm, ⟨50, _⟩ => ⟨S140, .i32⟩
  | .hbm, ⟨51, _⟩ => ⟨S140, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S140x1, .i32⟩
  | .hbm, ⟨69, _⟩ => ⟨S140x1, .i32⟩
  | .hbm, ⟨70, _⟩ => ⟨S140x1, .i32⟩
  | .hbm, ⟨71, _⟩ => ⟨S140x3, .i32⟩
  | .hbm, ⟨72, _⟩ => ⟨S140x1x1024x3584, .f32⟩
  | .hbm, ⟨73, _⟩ => ⟨S140x1024x3584, .f32⟩
  | .hbm, ⟨74, _⟩ => ⟨S_, .i32⟩
  | .hbm, ⟨75, _⟩ => ⟨S140, .i32⟩
  | .hbm, ⟨76, _⟩ => ⟨S140, .i1⟩
  | .hbm, ⟨77, _⟩ => ⟨S_, .i32⟩
  | .hbm, ⟨78, _⟩ => ⟨S140, .i32⟩
  | .hbm, ⟨79, _⟩ => ⟨S140, .i32⟩
  | .hbm, ⟨80, _⟩ => ⟨S140, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S140x1, .i32⟩
  | .hbm, ⟨98, _⟩ => ⟨S140x1, .i32⟩
  | .hbm, ⟨99, _⟩ => ⟨S140x1, .i32⟩
  | .hbm, ⟨100, _⟩ => ⟨S140x3, .i32⟩
  | .hbm, ⟨101, _⟩ => ⟨S140x1x3584x1024, .f32⟩
  | .hbm, ⟨102, _⟩ => ⟨S140x3584x1024, .f32⟩
  | .hbm, ⟨103, _⟩ => ⟨S140x256x3584, .f32⟩
  | .hbm, ⟨104, _⟩ => ⟨S140x256x3584, .f32⟩
  | .hbm, ⟨105, _⟩ => ⟨S140x256x3584, .f32⟩
  | .hbm, ⟨106, _⟩ => ⟨S_, .f32⟩
  | .hbm, ⟨107, _⟩ => ⟨S140x256x3584, .f32⟩
  | .hbm, ⟨108, _⟩ => ⟨S140x256x3584, .f32⟩
  | .hbm, ⟨109, _⟩ => ⟨S_, .f32⟩
  | .hbm, ⟨110, _⟩ => ⟨S140x256x3584, .f32⟩
  | .hbm, ⟨111, _⟩ => ⟨S140x256x3584, .f32⟩
  | .hbm, ⟨112, _⟩ => ⟨S140x256x3584, .f32⟩
  | .hbm, ⟨113, _⟩ => ⟨S140x256x3584, .f32⟩
  | .hbm, ⟨114, _⟩ => ⟨S140x256x3584, .f32⟩
  | .hbm, ⟨115, _⟩ => ⟨S140x256x1024, .f32⟩
  | .hbm, ⟨116, _⟩ => ⟨S35840x1024, .f32⟩
  | .hbm, ⟨117, _⟩ => ⟨S35840x1024, .bf16⟩
  | _, _ => ⟨S35840x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_c_6 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_c_11 : Ref sig .tc := ⟨.hbm, 35, rfl⟩
abbrev main_v17 : Ref sig .tc := ⟨.hbm, 36, rfl⟩
abbrev main_c_12 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_13 : Ref sig .tc := ⟨.hbm, 45, rfl⟩
abbrev main_v25 : Ref sig .tc := ⟨.hbm, 46, rfl⟩
abbrev main_v26 : Ref sig .tc := ⟨.hbm, 47, rfl⟩
abbrev main_c_14 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_15 : Ref sig .tc := ⟨.hbm, 52, rfl⟩
abbrev main_c_16 : Ref sig .tc := ⟨.hbm, 53, rfl⟩
abbrev main_v30 : Ref sig .tc := ⟨.hbm, 54, rfl⟩
abbrev main_c_17 : Ref sig .tc := ⟨.hbm, 55, rfl⟩
abbrev main_c_18 : Ref sig .tc := ⟨.hbm, 56, rfl⟩
abbrev main_v31 : Ref sig .tc := ⟨.hbm, 57, rfl⟩
abbrev main_c_19 : Ref sig .tc := ⟨.hbm, 58, rfl⟩
abbrev main_v32 : Ref sig .tc := ⟨.hbm, 59, rfl⟩
abbrev main_c_20 : Ref sig .tc := ⟨.hbm, 60, rfl⟩
abbrev main_c_21 : Ref sig .tc := ⟨.hbm, 61, rfl⟩
abbrev main_v33 : Ref sig .tc := ⟨.hbm, 62, rfl⟩
abbrev main_c_22 : Ref sig .tc := ⟨.hbm, 63, rfl⟩
abbrev main_c_23 : Ref sig .tc := ⟨.hbm, 64, rfl⟩
abbrev main_v34 : Ref sig .tc := ⟨.hbm, 65, rfl⟩
abbrev main_c_24 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_25 : Ref sig .tc := ⟨.hbm, 74, rfl⟩
abbrev main_v42 : Ref sig .tc := ⟨.hbm, 75, rfl⟩
abbrev main_v43 : Ref sig .tc := ⟨.hbm, 76, rfl⟩
abbrev main_c_26 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_27 : Ref sig .tc := ⟨.hbm, 81, rfl⟩
abbrev main_c_28 : Ref sig .tc := ⟨.hbm, 82, rfl⟩
abbrev main_v47 : Ref sig .tc := ⟨.hbm, 83, rfl⟩
abbrev main_c_29 : Ref sig .tc := ⟨.hbm, 84, rfl⟩
abbrev main_c_30 : Ref sig .tc := ⟨.hbm, 85, rfl⟩
abbrev main_v48 : Ref sig .tc := ⟨.hbm, 86, rfl⟩
abbrev main_c_31 : Ref sig .tc := ⟨.hbm, 87, rfl⟩
abbrev main_v49 : Ref sig .tc := ⟨.hbm, 88, rfl⟩
abbrev main_c_32 : Ref sig .tc := ⟨.hbm, 89, rfl⟩
abbrev main_c_33 : Ref sig .tc := ⟨.hbm, 90, rfl⟩
abbrev main_v50 : Ref sig .tc := ⟨.hbm, 91, rfl⟩
abbrev main_c_34 : Ref sig .tc := ⟨.hbm, 92, rfl⟩
abbrev main_c_35 : Ref sig .tc := ⟨.hbm, 93, rfl⟩
abbrev main_v51 : Ref sig .tc := ⟨.hbm, 94, rfl⟩
abbrev main_c_36 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩

abbrev nD : Nat := 1
abbrev τ : Topo := Topo.v7x

variable {F : FTy → Type} [FloatOps F]
-- ==== Merge.lean ====
abbrev S16384x1024 : Shape := ⟨2, ![16384, 1024]⟩
abbrev S512x1024 : Shape := ⟨2, ![512, 1024]⟩
abbrev S16384x256 : Shape := ⟨2, ![16384, 256]⟩
abbrev S512x256 : Shape := ⟨2, ![512, 256]⟩
abbrev S16896x256 : Shape := ⟨2, ![16896, 256]⟩
abbrev S16896x3072 : Shape := ⟨2, ![16896, 3072]⟩
abbrev S16384x512 : Shape := ⟨2, ![16384, 512]⟩
abbrev S512x512 : Shape := ⟨2, ![512, 512]⟩
abbrev S128x2x256 : Shape := ⟨3, ![128, 2, 256]⟩
abbrev S256 : Shape := ⟨1, ![256]⟩
abbrev S256x256 : Shape := ⟨2, ![256, 256]⟩
abbrev S3x256 : Shape := ⟨2, ![3, 256]⟩
abbrev S256x1024 : Shape := ⟨2, ![256, 1024]⟩
abbrev S1024x1024 : Shape := ⟨2, ![1024, 1024]⟩
abbrev S128x4x256 : Shape := ⟨3, ![128, 4, 256]⟩
abbrev S128x6x256 : Shape := ⟨3, ![128, 6, 256]⟩
abbrev S1x256 : Shape := ⟨2, ![1, 256]⟩
abbrev S8x256 : Shape := ⟨2, ![8, 256]⟩
abbrev S512x3072 : Shape := ⟨2, ![512, 3072]⟩

abbrev nBuf : Space → Nat
  | .hbm => 36
  | .vmem => 40
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x256, .f32⟩
  | .hbm, ⟨3, _⟩ => ⟨S512x256, .f32⟩
  | .hbm, ⟨4, _⟩ => ⟨S16896x256, .f32⟩
  | .hbm, ⟨5, _⟩ => ⟨S16896x256, .f32⟩
  | .hbm, ⟨6, _⟩ => ⟨S16896x3072, .bf16⟩
  | .hbm, ⟨7, _⟩ => ⟨S16384x256, .f32⟩
  | .hbm, ⟨8, _⟩ => ⟨S512x256, .f32⟩
  | .hbm, ⟨9, _⟩ => ⟨S16384x512, .bf16⟩
  | .hbm, ⟨10, _⟩ => ⟨S512x512, .bf16⟩
  | .hbm, ⟨11, _⟩ => ⟨S128x2x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S3x256, .f32⟩
  | .hbm, ⟨16, _⟩ => ⟨S256x1024, .f32⟩
  | .hbm, ⟨17, _⟩ => ⟨S512x1024, .f32⟩
  | .hbm, ⟨18, _⟩ => ⟨S256x1024, .f32⟩
  | .hbm, ⟨19, _⟩ => ⟨S1024x1024, .f32⟩
  | .hbm, ⟨20, _⟩ => ⟨S512x256, .f32⟩
  | .hbm, ⟨21, _⟩ => ⟨S128x4x256, .f32⟩
  | .hbm, ⟨22, _⟩ => ⟨S128x6x256, .f32⟩
  | .hbm, ⟨23, _⟩ => ⟨S128x4x256, .f32⟩
  | .hbm, ⟨24, _⟩ => ⟨S512x256, .f32⟩
  | .hbm, ⟨25, _⟩ => ⟨S128x4x256, .f32⟩
  | .hbm, ⟨26, _⟩ => ⟨S512x256, .f32⟩
  | .hbm, ⟨27, _⟩ => ⟨S1x256, .f32⟩
  | .hbm, ⟨28, _⟩ => ⟨S256x256, .bf16⟩
  | .hbm, ⟨29, _⟩ => ⟨S1x256, .f32⟩
  | .hbm, ⟨30, _⟩ => ⟨S256x1024, .bf16⟩
  | .hbm, ⟨31, _⟩ => ⟨S512x1024, .bf16⟩
  | .hbm, ⟨32, _⟩ => ⟨S256x1024, .bf16⟩
  | .hbm, ⟨33, _⟩ => ⟨S1024x1024, .bf16⟩
  | .hbm, ⟨34, _⟩ => ⟨S16384x1024, .f32⟩
  | .hbm, ⟨35, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S8x256, .f32⟩
  | .local _ .vmem, ⟨13, _⟩ => ⟨S8x256, .f32⟩
  | .local _ .vmem, ⟨14, _⟩ => ⟨S512x3072, .bf16⟩
  | .local _ .vmem, ⟨15, _⟩ => ⟨S512x3072, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S1x256, .f32⟩
  | .local _ .vmem, ⟨29, _⟩ => ⟨S256x256, .bf16⟩
  | .local _ .vmem, ⟨30, _⟩ => ⟨S1x256, .f32⟩
  | .local _ .vmem, ⟨31, _⟩ => ⟨S3x256, .f32⟩
  | .local _ .vmem, ⟨32, _⟩ => ⟨S256x1024, .bf16⟩
  | .local _ .vmem, ⟨33, _⟩ => ⟨S512x1024, .bf16⟩
  | .local _ .vmem, ⟨34, _⟩ => ⟨S256x1024, .bf16⟩
  | .local _ .vmem, ⟨35, _⟩ => ⟨S1024x1024, .bf16⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v120 : BitVec 32 := Scalar.extui v0
  let c0_i32_64 : BitVec 32 := 0#32
  let v121 : BitVec 1 := Scalar.cmpi .ne v120 c0_i32_64
  v121

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v122 : BitVec 1 := Scalar.xori v0 v_true
  let v123 : BitVec 32 := Scalar.extui v122
  let c0_i32_65 : BitVec 32 := 0#32
  let v124 : BitVec 1 := Scalar.cmpi .ne v123 c0_i32_65
  v124

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== MergeReferenceIdeal.lean ====
abbrev S16384x1024 : Shape := ⟨2, ![16384, 1024]⟩
abbrev S512x1024 : Shape := ⟨2, ![512, 1024]⟩
abbrev S16384x256 : Shape := ⟨2, ![16384, 256]⟩
abbrev S512x256 : Shape := ⟨2, ![512, 256]⟩
abbrev S16896x256 : Shape := ⟨2, ![16896, 256]⟩
abbrev S16896x3072 : Shape := ⟨2, ![16896, 3072]⟩
abbrev S16384x512 : Shape := ⟨2, ![16384, 512]⟩
abbrev S512x512 : Shape := ⟨2, ![512, 512]⟩
abbrev S128x2x256 : Shape := ⟨3, ![128, 2, 256]⟩
abbrev S256 : Shape := ⟨1, ![256]⟩
abbrev S256x256 : Shape := ⟨2, ![256, 256]⟩
abbrev S3x256 : Shape := ⟨2, ![3, 256]⟩
abbrev S256x1024 : Shape := ⟨2, ![256, 1024]⟩
abbrev S1024x1024 : Shape := ⟨2, ![1024, 1024]⟩
abbrev S_ : Shape := ⟨0, ![]⟩
abbrev S4x2x256 : Shape := ⟨3, ![4, 2, 256]⟩
abbrev S16384x3072 : Shape := ⟨2, ![16384, 3072]⟩
abbrev S1x256 : Shape := ⟨2, ![1, 256]⟩
abbrev S4x4096x256 : Shape := ⟨3, ![4, 4096, 256]⟩
abbrev S4x4098x256 : Shape := ⟨3, ![4, 4098, 256]⟩
abbrev S1x1x256 : Shape := ⟨3, ![1, 1, 256]⟩
abbrev S512x3072 : Shape := ⟨2, ![512, 3072]⟩
abbrev S128x4x256 : Shape := ⟨3, ![128, 4, 256]⟩
abbrev S128x6x256 : Shape := ⟨3, ![128, 6, 256]⟩

abbrev nBuf : Space → Nat
  | .hbm => 174
  | .vmem => 0
  | .smem => 0
  | _ => 0

abbrev hbmTy0_0 (i : Nat) : BufTy := match i % 128 with
  | 0 => ⟨S16384x1024, .f32⟩
  | 1 => ⟨S512x1024, .f32⟩
  | 2 => ⟨S16384x256, .f32⟩
  | 3 => ⟨S512x256, .f32⟩
  | 4 => ⟨S16896x256, .f32⟩
  | 5 => ⟨S16896x256, .f32⟩
  | 6 => ⟨S16896x3072, .bf16⟩
  | 7 => ⟨S16384x256, .f32⟩
  | 8 => ⟨S512x256, .f32⟩
  | 9 => ⟨S16384x512, .bf16⟩
  | 10 => ⟨S512x512, .bf16⟩
  | 11 => ⟨S128x2x256, .f32⟩
  | 12 => ⟨S256, .f32⟩
  | 13 => ⟨S256x256, .f32⟩
  | 14 => ⟨S256, .f32⟩
  | 15 => ⟨S3x256, .f32⟩
  | 16 => ⟨S256x1024, .f32⟩
  | 17 => ⟨S512x1024, .f32⟩
  | 18 => ⟨S256x1024, .f32⟩
  | 19 => ⟨S1024x1024, .f32⟩
  | 20 => ⟨S_, .f32⟩
  | 21 => ⟨S4x2x256, .f32⟩
  | 22 => ⟨S16384x256, .f32⟩
  | 23 => ⟨S16384x256, .f32⟩
  | 24 => ⟨S16384x3072, .bf16⟩
  | 25 => ⟨S1x256, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S_, .f32⟩
  | 32 => ⟨S16384x256, .f32⟩
  | 33 => ⟨S16384x256, .f32⟩
  | 34 => ⟨S16384x256, .f32⟩
  | 35 => ⟨S_, .f32⟩
  | 36 => ⟨S16384x256, .f32⟩
  | 37 => ⟨S16384x256, .f32⟩
  | 38 => ⟨S16384x256, .f32⟩
  | 39 => ⟨S_, .f32⟩
  | 40 => ⟨S16384x256, .f32⟩
  | 41 => ⟨S16384x256, .f32⟩
  | 42 => ⟨S_, .f32⟩
  | 43 => ⟨S16384x256, .f32⟩
  | 44 => ⟨S16384x256, .f32⟩
  | 45 => ⟨S16384x256, .f32⟩
  | 46 => ⟨S16384x256, .f32⟩
  | 47 => ⟨S1x256, .f32⟩
  | 48 => ⟨S16384x256, .f32⟩
  | 49 => ⟨S16384x256, .f32⟩
  | 50 => ⟨S16384x256, .f32⟩
  | 51 => ⟨S16384x256, .f32⟩
  | 52 => ⟨S_, .f32⟩
  | 53 => ⟨S16384x256, .f32⟩
  | 54 => ⟨S16384x256, .f32⟩
  | 55 => ⟨S_, .f32⟩
  | 56 => ⟨S16384x256, .f32⟩
  | 57 => ⟨S16384x256, .f32⟩
  | 58 => ⟨S16384x256, .f32⟩
  | 59 => ⟨S4x4096x256, .f32⟩
  | 60 => ⟨S4x4098x256, .f32⟩
  | 61 => ⟨S4x4096x256, .f32⟩
  | 62 => ⟨S1x256, .f32⟩
  | 63 => ⟨S256, .f32⟩
  | 64 => ⟨S1x1x256, .f32⟩
  | 65 => ⟨S4x4096x256, .f32⟩
  | 66 => ⟨S4x4096x256, .f32⟩
  | 67 => ⟨S4x4096x256, .f32⟩
  | 68 => ⟨S1x256, .f32⟩
  | 69 => ⟨S256, .f32⟩
  | 70 => ⟨S1x1x256, .f32⟩
  | 71 => ⟨S4x4096x256, .f32⟩
  | 72 => ⟨S4x4096x256, .f32⟩
  | 73 => ⟨S4x4096x256, .f32⟩
  | 74 => ⟨S4x4096x256, .f32⟩
  | 75 => ⟨S1x256, .f32⟩
  | 76 => ⟨S256, .f32⟩
  | 77 => ⟨S1x1x256, .f32⟩
  | 78 => ⟨S4x4096x256, .f32⟩
  | 79 => ⟨S4x4096x256, .f32⟩
  | 80 => ⟨S4x4096x256, .f32⟩
  | 81 => ⟨S16384x256, .f32⟩
  | 82 => ⟨S16384x256, .f32⟩
  | 83 => ⟨S16384x3072, .f32⟩
  | 84 => ⟨S16384x1024, .f32⟩
  | 85 => ⟨S16384x1024, .f32⟩
  | 86 => ⟨S16384x1024, .f32⟩
  | 87 => ⟨S16384x1024, .f32⟩
  | 88 => ⟨S16384x512, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S512x256, .f32⟩
  | 99 => ⟨S512x256, .f32⟩
  | 100 => ⟨S512x3072, .bf16⟩
  | 101 => ⟨S1x256, .f32⟩
  | 102 => ⟨S512x256, .f32⟩
  | 103 => ⟨S512x256, .f32⟩
  | 104 => ⟨S512x256, .f32⟩
  | 105 => ⟨S512x256, .f32⟩
  | 106 => ⟨S512x256, .f32⟩
  | 107 => ⟨S_, .f32⟩
  | 108 => ⟨S512x256, .f32⟩
  | 109 => ⟨S512x256, .f32⟩
  | 110 => ⟨S512x256, .f32⟩
  | 111 => ⟨S_, .f32⟩
  | 112 => ⟨S512x256, .f32⟩
  | 113 => ⟨S512x256, .f32⟩
  | 114 => ⟨S512x256, .f32⟩
  | 115 => ⟨S_, .f32⟩
  | 116 => ⟨S512x256, .f32⟩
  | 117 => ⟨S512x256, .f32⟩
  | 118 => ⟨S_, .f32⟩
  | 119 => ⟨S512x256, .f32⟩
  | 120 => ⟨S512x256, .f32⟩
  | 121 => ⟨S512x256, .f32⟩
  | 122 => ⟨S512x256, .f32⟩
  | 123 => ⟨S1x256, .f32⟩
  | 124 => ⟨S512x256, .f32⟩
  | 125 => ⟨S512x256, .f32⟩
  | 126 => ⟨S512x256, .f32⟩
  | 127 => ⟨S512x256, .f32⟩
  | _ => ⟨S16384x1024, .f32⟩

abbrev hbmTy0_1 (i : Nat) : BufTy := match i % 128 with
  | 0 => ⟨S_, .f32⟩
  | 1 => ⟨S512x256, .f32⟩
  | 2 => ⟨S512x256, .f32⟩
  | 3 => ⟨S_, .f32⟩
  | 4 => ⟨S512x256, .f32⟩
  | 5 => ⟨S512x256, .f32⟩
  | 6 => ⟨S512x256, .f32⟩
  | 7 => ⟨S128x4x256, .f32⟩
  | 8 => ⟨S128x6x256, .f32⟩
  | 9 => ⟨S128x4x256, .f32⟩
  | 10 => ⟨S1x256, .f32⟩
  | 11 => ⟨S256, .f32⟩
  | 12 => ⟨S1x1x256, .f32⟩
  | 13 => ⟨S128x4x256, .f32⟩
  | 14 => ⟨S128x4x256, .f32⟩
  | 15 => ⟨S128x4x256, .f32⟩
  | 16 => ⟨S1x256, .f32⟩
  | 17 => ⟨S256, .f32⟩
  | 18 => ⟨S1x1x256, .f32⟩
  | 19 => ⟨S128x4x256, .f32⟩
  | 20 => ⟨S128x4x256, .f32⟩
  | 21 => ⟨S128x4x256, .f32⟩
  | 22 => ⟨S128x4x256, .f32⟩
  | 23 => ⟨S1x256, .f32⟩
  | 24 => ⟨S256, .f32⟩
  | 25 => ⟨S1x1x256, .f32⟩
  | 26 => ⟨S128x4x256, .f32⟩
  | 27 => ⟨S128x4x256, .f32⟩
  | 28 => ⟨S128x4x256, .f32⟩
  | 29 => ⟨S512x256, .f32⟩
  | 30 => ⟨S512x256, .f32⟩
  | 31 => ⟨S512x3072, .f32⟩
  | 32 => ⟨S512x1024, .f32⟩
  | 33 => ⟨S512x1024, .f32⟩
  | 34 => ⟨S512x1024, .f32⟩
  | 35 => ⟨S512x1024, .f32⟩
  | 36 => ⟨S512x512, .f32⟩
  | 37 => ⟨S512x1024, .f32⟩
  | 38 => ⟨S512x1024, .f32⟩
  | 39 => ⟨S512x1024, .f32⟩
  | 40 => ⟨S512x1024, .f32⟩
  | 41 => ⟨S512x1024, .f32⟩
  | 42 => ⟨S512x1024, .f32⟩
  | 43 => ⟨S512x1024, .f32⟩
  | 44 => ⟨S512x1024, .f32⟩
  | 45 => ⟨S512x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_6 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_7 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_8 : Ref sig .tc := ⟨.hbm, 115, rfl⟩
abbrev main_v86 : Ref sig .tc := ⟨.hbm, 116, rfl⟩
abbrev main_v87 : Ref sig .tc := ⟨.hbm, 117, rfl⟩
abbrev main_cst_9 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_10 : Ref sig .tc := ⟨.hbm, 128, rfl⟩
abbrev main_v97 : Ref sig .tc := ⟨.hbm, 129, rfl⟩
abbrev main_v98 : Ref sig .tc := ⟨.hbm, 130, rfl⟩
abbrev main_cst_11 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩

abbrev nD : Nat := 1
abbrev τ : Topo := Topo.v7x

variable {F : FTy → Type} [FloatOps F]
-- ==== Proof.FfnRun.lean ====
/- The run of the gated feed-forward kernel at the ideal instance, with what it leaves in its two results named.
   Thirty-two points store the prompt's row blocks and the last point stores the samples'; at the last point the
   prompt's buffer still holds the last prompt block, and it is written back once more. -/
module

public import proofs.«01_k».proof.Proof.Gen.FfnIdeal.Frame
public import proofs.«01_k».proof.Proof.Gen.FfnIdeal.Skeleton
public import proofs.«01_k».proof.Proof.Gen.FfnIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points store which result -/

theorem cond_prompt : ∀ t : Fin cfg0.N, k0_cond1 (grid0.coords t) = 1#1 ↔ t.val < 32 :=
  (by decide +kernel : ∀ t : Fin grid0.N, k0_cond1 (grid0.coords t) = 1#1 ↔ t.val < 32)
theorem cond_sample : ∀ t : Fin cfg0.N, k0_cond2 (grid0.coords t) = 1#1 ↔ t.val = 32 :=
  (by decide +kernel : ∀ t : Fin grid0.N, k0_cond2 (grid0.coords t) = 1#1 ↔ t.val = 32)
theorem idle_6 : ∀ t : Fin cfg0.N, cfg0.idle 6 (grid0.coords t) = decide (t.val = 32) :=
  (by decide +kernel : ∀ t : Fin grid0.N, cfg0.idle 6 (grid0.coords t) = decide (t.val = 32))
theorem idle_7 : ∀ t : Fin cfg0.N, cfg0.idle 7 (grid0.coords t) = decide (t.val < 32) :=
  (by decide +kernel : ∀ t : Fin grid0.N, cfg0.idle 7 (grid0.coords t) = decide (t.val < 32))
theorem flush_6 : ∀ t : Fin cfg0.N, (cfg0.win 6).flush t = decide (t.val ≠ 31) :=
  (by decide +kernel : ∀ t : Fin grid0.N, win0_6.flush t = decide (t.val ≠ 31))

/-! ## The body at a point -/

theorem off_zero : (![0, 0] : Fin 2 → Nat) = fun _ => 0 := funext fun a => by fin_cases a <;> rfl

/-- A store of the whole block over whole loads leaves the block's own term. -/
theorem stored_eq {arg1 : Memref sig .tc .vmem S512x1024 .f32} (harg1 : arg1.IsWhole) {arg2 : Memref sig .tc .vmem S512x1024 .f32} (harg2 : arg2.IsWhole) {arg3 : Memref sig .tc .vmem S1x1024 .f32} (harg3 : arg3.IsWhole) {arg4 : Memref sig .tc .vmem S1024x2816 .bf16} (harg4 : arg4.IsWhole) {arg5 : Memref sig .tc .vmem S1024x2816 .bf16} (harg5 : arg5.IsWhole) {arg6 : Memref sig .tc .vmem S2816x1024 .bf16} (harg6 : arg6.IsWhole)
    (o : Memref sig .tc .vmem S512x1024 .f32) (f : o.view.ty.Contents (Elt F)) (i : grid0.Coords) (x0 : Vec F S512x1024 .f32) (x1 : Vec F S512x1024 .f32) (x2 : Vec F S1x1024 .f32) (x3 : Vec F S1024x2816 .bf16) (x4 : Vec F S1024x2816 .bf16) (x5 : Vec F S2816x1024 .bf16) :
    o.view.read (Elt F) (o.view.writes (Elt F) f [⟨Rect.unit (s := S512x1024) ![0, 0] S512x1024.size inb_S512x1024_S512x1024_0_0,
      k0_pay1 i
        (arg1.view.readAt (Elt F) (Rect.unit (s := S512x1024) ![0, 0] S512x1024.size inb_S512x1024_S512x1024_0_0) (harg1.unread x0))
        (arg2.view.readAt (Elt F) (Rect.unit (s := S512x1024) ![0, 0] S512x1024.size inb_S512x1024_S512x1024_0_0) (harg2.unread x1))
        (arg3.view.readAt (Elt F) (Rect.unit (s := S1x1024) ![0, 0] S1x1024.size inb_S1x1024_S1x1024_0_0) (harg3.unread x2))
        (arg4.view.readAt (Elt F) (Rect.unit (s := S1024x2816) ![0, 0] S1024x2816.size inb_S1024x2816_S1024x2816_0_0) (harg4.unread x3))
        (arg5.view.readAt (Elt F) (Rect.unit (s := S1024x2816) ![0, 0] S1024x2816.size inb_S1024x2816_S1024x2816_0_0) (harg5.unread x4))
        (arg6.view.readAt (Elt F) (Rect.unit (s := S2816x1024) ![0, 0] S2816x1024.size inb_S2816x1024_S2816x1024_0_0) (harg6.unread x5))⟩])
      = k0_pay1 i x0 x1 x2 x3 x4 x5 := by
  refine (View.read_writes_full (s := S512x1024) o.view f inb_S512x1024_S512x1024_0_0 _ []).trans ?_
  simp only [View.readAt_eq_ld, harg1.read_unread, harg2.read_unread, harg3.read_unread, harg4.read_unread, harg5.read_unread,
    harg6.read_unread]
  rw [View.ld_unit_zero (S := S512x1024) off_zero, View.ld_unit_zero (S := S512x1024) off_zero, View.ld_unit_zero (S := S1x1024) off_zero,
    View.ld_unit_zero (S := S1024x2816) off_zero, View.ld_unit_zero (S := S1024x2816) off_zero, View.ld_unit_zero (S := S2816x1024) off_zero]

set_option maxHeartbeats 1000000 in
/-- A prompt point: the body stores its block in the prompt's buffer and leaves the samples' as it found it. -/
theorem run_prompt (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .f32) (harg8 : arg8.IsWhole)
    (hc0 : k0_cond1 i = 1#1) (hc1 : ¬ k0_cond2 i = 1#1) (x0 : Vec F S512x1024 .f32) (x1 : Vec F S512x1024 .f32) (x2 : Vec F S1x1024 .f32) (x3 : Vec F S1024x2816 .bf16) (x4 : Vec F S1024x2816 .bf16) (x5 : Vec F S2816x1024 .bf16) (y : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 i x0 x1 x2 x3 x4 x5) ∗ owns (c : Thread nD τ) arg8 fullShare y) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact stored_eq harg1 harg2 harg3 harg4 harg5 harg6 _ _ i x0 x1 x2 x3 x4 x5
  iexists _; isplitr; · ipureintro; exact harg8.read_unread _
  iexact H7

set_option maxHeartbeats 1000000 in
/-- The sample point: the body stores its block in the samples' buffer and leaves the prompt's as it found it. -/
theorem run_sample (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .f32) (harg8 : arg8.IsWhole)
    (hc0 : ¬ k0_cond1 i = 1#1) (hc1 : k0_cond2 i = 1#1) (x0 : Vec F S512x1024 .f32) (x1 : Vec F S512x1024 .f32) (x2 : Vec F S1x1024 .f32) (x3 : Vec F S1024x2816 .bf16) (x4 : Vec F S1024x2816 .bf16) (x5 : Vec F S2816x1024 .bf16) (y : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y ∗ owns (c : Thread nD τ) arg8 fullShare (k0_pay1 i x0 x1 x2 x3 x4 x5)) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr; swap; · iexact H7
  ipureintro; exact stored_eq harg1 harg2 harg3 harg4 harg5 harg6 _ _ i x0 x1 x2 x3 x4 x5

/-! ## The pipeline's proof data -/

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x2816 .bf16 := win0_3.stage (cfg0.slots t 3)
abbrev ms4 (t : Fin cfg0.N) : Memref sig .tc .vmem S1024x2816 .bf16 := win0_4.stage (cfg0.slots t 4)
abbrev ms5 (t : Fin cfg0.N) : Memref sig .tc .vmem S2816x1024 .bf16 := win0_5.stage (cfg0.slots t 5)
abbrev ms6 (t : Fin cfg0.N) : Memref sig .tc .vmem S512x1024 .f32 := win0_6.stage (cfg0.slots t 6)
abbrev ms7 (t : Fin cfg0.N) : Memref sig .tc .vmem S512x1024 .f32 := win0_7.stage (cfg0.slots t 7)

/-- The block the body computes at a point. -/
def blockAt (c : Dev nD) (t : Fin cfg0.N) : Vec F S512x1024 .f32 :=
  k0_pay1 (grid0.coords t) (iblk m c 0 t) (iblk m c 1 t) (iblk m c 2 t) (iblk m c 3 t) (iblk m c 4 t) (iblk m c 5 t)

/-- The last prompt point at or before a point. -/
def promptPoint (t : Fin cfg0.N) : Fin cfg0.N := ⟨min t.val 31, Nat.lt_of_le_of_lt (Nat.min_le_left _ _) t.isLt⟩

/-- The arrays as the region finds them; the inputs' buffers at their blocks; the prompt's buffer at the block of the last
    prompt point; the samples' at the block of its own point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c (promptPoint t)
    | ⟨7, _⟩ => blockAt m c t
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = blockAt m c (promptPoint t) := by dsimp only [data]
theorem after_7 (c : Dev nD) (t : Fin cfg0.N) : (data m 0 c).after 7 t = blockAt m c t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d

theorem leaves_0 (c : Dev nD) (t : Fin cfg0.N) : (data m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (data m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (data m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (data m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (data m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (data m 0 c).leavesExact 5 t = owns (c : Thread nD τ) (ms5 t) fullShare (iblk m c 5 t) := by
  unfold Dat.leavesExact; rw [show cfg0.idle 5 (grid0.coords t) = false from rfl, after_5]

theorem promptPoint_of_lt {t : Fin cfg0.N} (h : t.val < 32) : promptPoint t = t :=
  Fin.ext (Nat.min_eq_left (by omega))

/-- At the last point the prompt's buffer holds what the point before left in it. -/
theorem before_6_last (c : Dev nD) (t : Fin cfg0.N) (h : t.val = 32) (d) :
    (data m 0 c).before 6 t d = blockAt m c (promptPoint t) := by
  rw [Dat.before_of_pos (data m 0 c) 6 t (by omega) (by rfl) d]
  rw [flush_6, if_neg (by simp [h])]
  unfold Dat.left
  rw [idle_6]
  rw [show (decide (((⟨t.val - 1, Nat.lt_of_le_of_lt (Nat.sub_le _ _) t.isLt⟩ : Fin cfg0.N)).val = 32)) = false from by simp [h]]
  show (data m 0 c).after 6 ⟨t.val - 1, Nat.lt_of_le_of_lt (Nat.sub_le _ _) t.isLt⟩ = _
  rw [after_6]
  exact congrArg (blockAt m c) (Fin.ext (by simp only [promptPoint]; omega))

/-! ## The body obligation -/

/-- What the body is called with at a point, -/
def bodyPre (c : Dev nD) (t : Fin cfg0.N) : sProp 𝕄 :=
  iprop((data m 0 c).Φ t.castSucc ∗ (data m 0 c).owesAt () t.castSucc
    ∗ (∃ d, owns (c : Thread nD τ) (ms0 t) fullShare ((data m 0 c).before 0 t d))
    ∗ (∃ d, owns (c : Thread nD τ) (ms1 t) fullShare ((data m 0 c).before 1 t d))
    ∗ (∃ d, owns (c : Thread nD τ) (ms2 t) fullShare ((data m 0 c).before 2 t d))
    ∗ (∃ d, owns (c : Thread nD τ) (ms3 t) fullShare ((data m 0 c).before 3 t d))
    ∗ (∃ d, owns (c : Thread nD τ) (ms4 t) fullShare ((data m 0 c).before 4 t d))
    ∗ (∃ d, owns (c : Thread nD τ) (ms5 t) fullShare ((data m 0 c).before 5 t d))
    ∗ (∃ d, owns (c : Thread nD τ) (ms6 t) fullShare ((data m 0 c).before 6 t d))
    ∗ (∃ d, owns (c : Thread nD τ) (ms7 t) fullShare ((data m 0 c).before 7 t d)))

/-- and what it returns. -/
def bodyPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t)

set_option maxHeartbeats 1600000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (data m 0 c).Φ t.succ = (data m 0 c).Φ t.castSucc from rfl,
    show (data m 0 c).owesAt () t.succ = (data m 0 c).owesAt () t.castSucc from rfl]
  have hN : t.val < 33 := lt_of_lt_of_eq t.isLt (show cfg0.N = 33 from N_0)
  by_cases h : t.val < 32
  · have hf : (cfg0.win 7).flush t = false := by
      rw [Bool.eq_false_iff]; intro h'; have := (flush0_7 t).mp h'; omega
    rw [show (data m 0 c).leavesExact 6 t = owns (c : Thread nD τ) (ms6 t) fullShare (blockAt m c t) from by
        unfold Dat.leavesExact
        rw [show cfg0.idle 6 (cfg0.grid.coords t) = false from (idle_6 t).trans (decide_eq_false (by omega)), after_6, promptPoint_of_lt h],
      Dat.leavesExact_idle (data m 0 c) 7 t ((idle_7 t).trans (decide_eq_true h)) hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_prompt c (grid0.coords t) _ _ _ _ _ _ _ _ _ _ _ _ _ _ _ _ ((cond_prompt t).mpr h) (fun h' => absurd ((cond_sample t).mp h') (by omega)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · have hl : t.val = 32 := by omega
    rw [show (data m 0 c).leavesExact 6 t = owns (c : Thread nD τ) (ms6 t) fullShare (blockAt m c (promptPoint t)) from by
        unfold Dat.leavesExact
        rw [show cfg0.idle 6 (cfg0.grid.coords t) = true from (idle_6 t).trans (decide_eq_true hl),
          show (cfg0.win 6).flush t = true from (flush_6 t).trans (decide_eq_true (by omega)), after_6],
      show (data m 0 c).leavesExact 7 t = owns (c : Thread nD τ) (ms7 t) fullShare (blockAt m c t) from by
        unfold Dat.leavesExact
        rw [show cfg0.idle 7 (cfg0.grid.coords t) = false from (idle_7 t).trans (decide_eq_false h), after_7]]
    simp only [before_6_last m c t hl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_sample c (grid0.coords t) _ _ _ _ _ _ _ _ _ _ _ _ _ _ _ _ (fun h' => h ((cond_prompt t).mp h')) ((cond_sample t).mpr (by omega)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (data (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
/-- The kernel runs to its end, its arrays at what the proof data says, every counter back at zero. -/
theorem run_all : θ_run defs (onTc (τ := τ) (main (F := F))) (s₀ m ρ) (fun r => Pipeline.FramePost cfgs (data m) 0 (V m) r ∧ r.2.sem = fun _ => 0) :=
  Pipeline.θ_run_frame (Q' := _) cfgs (data m) (0 : Fin 1) launch0 defs₀ Variants.none m ρ main
    (hbody := fun c => (body_obligation m c).loose) (hshare := fun c => (data m 0 c).share_full fun _ => rfl)
    (howed := fun _ _ => rfl) (V := V m) (hmain := hmain m Variants.none) (hA := data_A m) (hΦ := fun _ _ => rfl)

theorem run_main : θ_run defs (onTc (τ := τ) (main (F := F))) (s₀ m ρ) (Pipeline.FramePost cfgs (data m) 0 (V m)) :=
  (θ_run defs _ _).mono (fun _ h => h.1) (run_all m ρ)

/-- The argument arrays end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (data m) (data_A m) (run_main m ρ))
    ((θ_run defs _ _).mono (fun _ h => h.2) (run_all m ρ))

end Cert.FfnIdeal.Hand

end
-- ==== Proof.FfnValue.lean ====
/- What the gated feed-forward kernel leaves in its two results, at the ideal instance: the reference's terms of the arguments. -/
module

public import proofs.«01_k».proof.Proof.FfnRun
public import proofs.«01_k».proof.Proof.Gen.FfnReferenceIdeal.Read
public import Idealize.ShloMosaic.Lib.Pipeline.ValueKit

@[expose] public section

set_option maxRecDepth 16384

noncomputable section

namespace Cert.FfnIdeal.Hand

open Cert.FfnIdeal Cert.FfnIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![min t.val 31, 0] ∧ win0_1.index t = ![0, 0] ∧ win0_2.index t = ![0, 0]
    ∧ win0_3.index t = ![0, 0] ∧ win0_4.index t = ![0, 0] ∧ win0_5.index t = ![0, 0]
    ∧ win0_6.index t = ![min t.val 31, 0] ∧ win0_7.index t = ![0, 0] :=
  (by decide +kernel : ∀ t : Fin grid0.N, _)

theorem slt_prompt : ∀ t : Fin cfg0.N, t.val < 32 → Scalar.cmpi .slt (BitVec.ofNat 32 (grid0.coords t 0).val) 32#32 = 1#1 :=
  (by decide +kernel : ∀ t : Fin grid0.N, t.val < 32 → Scalar.cmpi .slt (BitVec.ofNat 32 (grid0.coords t 0).val) 32#32 = 1#1)
theorem slt_sample : ∀ t : Fin cfg0.N, t.val = 32 → Scalar.cmpi .slt (BitVec.ofNat 32 (grid0.coords t 0).val) 32#32 = 0#1 :=
  (by decide +kernel : ∀ t : Fin grid0.N, t.val = 32 → Scalar.cmpi .slt (BitVec.ofNat 32 (grid0.coords t 0).val) 32#32 = 0#1)

theorem select_prompt (c : Dev nD) (t : Fin cfg0.N) (h : t.val < 32) :
    (Scalar.select (Scalar.cmpi .slt (BitVec.ofNat 32 (grid0.coords t 0).val) 32#32) (iblk m c 0 t) (iblk m c 1 t) : Vec Ideal S512x1024 .f32)
      = iblk m c 0 t := by rw [slt_prompt t h]; exact if_pos rfl
theorem select_sample (c : Dev nD) (t : Fin cfg0.N) (h : t.val = 32) :
    (Scalar.select (Scalar.cmpi .slt (BitVec.ofNat 32 (grid0.coords t 0).val) 32#32) (iblk m c 0 t) (iblk m c 1 t) : Vec Ideal S512x1024 .f32)
      = iblk m c 1 t := by rw [slt_sample t h]; exact if_neg (by decide)

open Cert.FfnReferenceIdeal.Read in
/-- A prompt block at a row and column is the reference's first result there. -/
theorem point_prompt (c : Dev nD) (t : Fin cfg0.N) (h : t.val < 32) (y) : blockAt m c t y
    = val_main_v18 (F := Ideal) (m ((c : Thread nD τ).loc main_arg0)) (m ((c : Thread nD τ).loc main_arg2)) (m ((c : Thread nD τ).loc main_arg3))
        (m ((c : Thread nD τ).loc main_arg4)) (m ((c : Thread nD τ).loc main_arg5)) (((cfg0.win 6).blk t).view.emb y) := by
  unfold blockAt k0_pay1
  dsimp only
  rw [select_prompt m c t h]
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_call0_v0, val_main_call0_v1, val_main_call0_v2, val_main_call0_v3,
    val_main_call0_v4, val_main_call0_v5, val_main_call0_cst, val_main_call0_cst_0]
  simp only [Ideal.logistic]
  blk_point [iblk, V, idx t]

open Cert.FfnReferenceIdeal.Read in
/-- The samples' block at a row and column is the reference's second result there. -/
theorem point_sample (c : Dev nD) (t : Fin cfg0.N) (h : t.val = 32) (y) : blockAt m c t y
    = val_main_v37 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) (((cfg0.win 7).blk t).view.emb y) := by
  unfold blockAt k0_pay1
  dsimp only
  rw [select_sample m c t h]
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_cst_2, val_main_cst_3, val_main_cst_4, val_main_call1_v0, val_main_call1_v1, val_main_call1_v2, val_main_call1_v3,
    val_main_call1_v4, val_main_call1_v5, val_main_call1_cst, val_main_call1_cst_0]
  simp only [Ideal.logistic]
  blk_point [iblk, V, idx t]

open Cert.FfnReferenceIdeal.Read in
/-- The prompt's result after the run. -/
theorem final_prompt (c : Dev nD) : (data m 0 c).arrAt 6 (cfgs 0).N
    = val_main_v18 (F := Ideal) (m ((c : Thread nD τ).loc main_arg0)) (m ((c : Thread nD τ).loc main_arg2)) (m ((c : Thread nD τ).loc main_arg3))
        (m ((c : Thread nD τ).loc main_arg4)) (m ((c : Thread nD τ).loc main_arg5)) := by
  refine (data m 0 c).arrAt_eq_of_covers 6 _ (by decide +kernel) fun t _ y => ?_
  blk_simp
  rw [after_6]
  refine (point_prompt m c (promptPoint t) (by simp only [promptPoint]; omega) y).trans (congrArg _ ?_)
  have hp : (promptPoint t).val = min t.val 31 := rfl
  blk_ext [idx t, idx (promptPoint t)]

open Cert.FfnReferenceIdeal.Read in
/-- The samples' result after the run. -/
theorem final_sample (c : Dev nD) : (data m 0 c).arrAt 7 (cfgs 0).N
    = val_main_v37 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) := by
  refine (data m 0 c).arrAt_eq_of_covers 7 _ (by decide +kernel) fun t hf y => ?_
  blk_simp
  rw [after_7]
  exact point_sample m c t (by have := (flush0_7 t).mp hf; have := lt_of_lt_of_eq t.isLt (show cfg0.N = 33 from N_0); omega) y

end Cert.FfnIdeal.Hand

end
-- ==== Proof.FfnClaim.lean ====
/- The claims about the gated feed-forward kernel and its reference. -/
module

public import proofs.«01_k».proof.Defs
public import proofs.«01_k».proof.Proof.FfnValue
public import proofs.«01_k».proof.Proof.FfnRunBits
public import Idealize.ShloMosaic.Lib.Claim
public import Idealize.ShloMosaic.Adequacy
public import Idealize.ShloMosaic.Init

@[expose] public section

set_option maxRecDepth 16384

noncomputable section

namespace Cert.FfnClaim

open Idealize.ShloMosaic Idealize.SL.Sem

theorem frame_kernel : Cert.quiescent_Ffn := fun m g _ => Cert.Ffn.Hand.quiescent m g

theorem frame_ideal : Cert.quiescent_FfnIdeal := fun m g _ => Cert.FfnIdeal.Hand.quiescent m g

theorem frame_reference : Cert.quiescent_FfnReferenceIdeal := fun m g _ =>
  (θ_run Cert.FfnReferenceIdeal.defs _ _).mono (fun r h => ⟨fun c => (h c).2.2, sem_eq_zero_of_no_sems (by decide) r.2⟩)
    (Cert.FfnReferenceIdeal.Value.run (F := Ideal) m g)

set_option maxHeartbeats 1000000 in
theorem algebraic : Cert.algebraic_FfnIdeal_FfnReferenceIdeal := by
  pair_intro
  · run_from Cert.FfnIdeal.Hand.run_main m g
  · run_from Cert.FfnReferenceIdeal.Value.run m' g'
    · exact (Cert.FfnReferenceIdeal.Read.val_main_v18_eq (F := Ideal) _ _ _ _ _).trans (Cert.FfnIdeal.Hand.final_prompt m c).symm
    · exact (Cert.FfnReferenceIdeal.Read.val_main_v37_eq (F := Ideal) _ _ _ _ _).trans (Cert.FfnIdeal.Hand.final_sample m c).symm

end Cert.FfnClaim

end
-- ==== Proof.MoeRun.lean ====
/- The run of the experts' kernel, at any two tables for which every block lies inside its array. A block whose number is below the
   count of filled blocks is computed and stored; past it the body stores nothing, and what the buffer holds there is written back
   all the same. So the proof data name the result's block where it is filled and say nothing of it elsewhere. -/
module

public import proofs.«01_k».proof.Proof.Gen.MoeIdeal.Launch
public import proofs.«01_k».proof.Proof.Gen.MoeIdeal.Skeleton
public import Idealize.ShloMosaic.Lib.Pipeline.Frame
public import Idealize.ShloMosaic.Lib.Pipeline.FrameBody
public import Idealize.ShloMosaic.Lib.Pipeline.Value
public import Idealize.ShloMosaic.Lib.Pipeline.DatRel
public import Idealize.ShloMosaic.Lib.Pipeline.ArrRel
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- The buffers when the kernel starts: the weights cast, everything else as launched. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh main_chain

/-- A buffer that is no cast weight is as launched. -/
theorem unwritten (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  unwritten m c main_arg0 (by decide) (by decide) (by decide)
theorem V_main_arg1 (c : Dev nD) : V m c main_arg1 = m ((c : Thread nD τ).loc main_arg1) :=
  unwritten m c main_arg1 (by decide) (by decide) (by decide)
theorem V_main_arg2 (c : Dev nD) : V m c main_arg2 = m ((c : Thread nD τ).loc main_arg2) :=
  unwritten m c main_arg2 (by decide) (by decide) (by decide)
theorem V_main_arg3 (c : Dev nD) : V m c main_arg3 = m ((c : Thread nD τ).loc main_arg3) :=
  unwritten m c main_arg3 (by decide) (by decide) (by decide)
theorem V_main_arg4 (c : Dev nD) : V m c main_arg4 = m ((c : Thread nD τ).loc main_arg4) :=
  unwritten m c main_arg4 (by decide) (by decide) (by decide)
theorem V_main_arg5 (c : Dev nD) : V m c main_arg5 = m ((c : Thread nD τ).loc main_arg5) :=
  unwritten m c main_arg5 (by decide) (by decide) (by decide)

/-! ## The body at a point -/

/-- The table of the blocks' experts and the count of filled blocks. -/
abbrev tbl : Memref sig .tc .smem S140 .i32 := Memref.whole main_arg1
abbrev cnt : Memref sig .tc .smem S1 .i32 := Memref.whole main_arg2

/-- The body's test at a point: whether the block is below the count read from its table. -/
def words (i : grid0.Coords) (T1 : S1.Idx → Elt F .i32) : BitVec 1 :=
  k0_cond1 i (View.readAt (Elt F) cnt.view (Rect.unit (s := S1) ![0] S1.size inb_S1_S1_0).toLoadRect T1
    (Shape.Idx.first (numel1_S1.symm ▸ Nat.one_pos)))

theorem off2 : (![0, 0] : Fin 2 → Nat) = fun _ => 0 := funext fun a => by fin_cases a <;> rfl
theorem off3 : (![0, 0, 0] : Fin 3 → Nat) = fun _ => 0 := funext fun a => by fin_cases a <;> rfl

/-- A store of the whole block over whole loads leaves the block's own term. -/
theorem stored_eq {arg3 : Memref sig .tc .vmem S256x512 .i32} (harg3 : arg3.IsWhole) {arg4 : Memref sig .tc .vmem S1x1024x3584 .bf16} (harg4 : arg4.IsWhole) {arg5 : Memref sig .tc .vmem S1x1024x3584 .bf16} (harg5 : arg5.IsWhole) {arg6 : Memref sig .tc .vmem S1x3584x1024 .bf16} (harg6 : arg6.IsWhole)
    (o : Memref sig .tc .vmem S256x1024 .bf16) (f : o.view.ty.Contents (Elt F)) (x0 : Vec F S256x512 .i32) (x1 : Vec F S1x1024x3584 .bf16) (x2 : Vec F S1x1024x3584 .bf16) (x3 : Vec F S1x3584x1024 .bf16) :
    o.view.read (Elt F) (o.view.writes (Elt F) f [⟨Rect.unit (s := S256x1024) ![0, 0] S256x1024.size inb_S256x1024_S256x1024_0_0,
      k0_pay1
        (arg3.view.readAt (Elt F) (Rect.unit (s := S256x512) ![0, 0] S256x512.size inb_S256x512_S256x512_0_0) (harg3.unread x0))
        (arg4.view.readAt (Elt F) (Rect.unit (s := S1x1024x3584) ![0, 0, 0] S1x1024x3584.size inb_S1x1024x3584_S1x1024x3584_0_0_0) (harg4.unread x1))
        (arg5.view.readAt (Elt F) (Rect.unit (s := S1x1024x3584) ![0, 0, 0] S1x1024x3584.size inb_S1x1024x3584_S1x1024x3584_0_0_0) (harg5.unread x2))
        (arg6.view.readAt (Elt F) (Rect.unit (s := S1x3584x1024) ![0, 0, 0] S1x3584x1024.size inb_S1x3584x1024_S1x3584x1024_0_0_0) (harg6.unread x3))⟩])
      = k0_pay1 x0 x1 x2 x3 := by
  refine (View.read_writes_full (s := S256x1024) o.view f inb_S256x1024_S256x1024_0_0 _ []).trans ?_
  simp only [View.readAt_eq_ld, harg3.read_unread, harg4.read_unread, harg5.read_unread, harg6.read_unread]
  rw [View.ld_unit_zero (S := S256x512) off2, View.ld_unit_zero (S := S1x1024x3584) off3, View.ld_unit_zero (S := S1x1024x3584) off3,
    View.ld_unit_zero (S := S1x3584x1024) off3]

set_option maxHeartbeats 2000000 in
/-- A filled block: the body stores it. -/
theorem run_filled (c : Dev nD) (i : grid0.Coords) (arg3 : Memref sig .tc .vmem S256x512 .i32) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S256x1024 .bf16) (harg7 : arg7.IsWhole) (T0 : S140.Idx → Elt F .i32) (T1 : S1.Idx → Elt F .i32)
    (hc : words i T1 = 1#1) (x0 : Vec F S256x512 .i32) (x1 : Vec F S1x1024x3584 .bf16) (x2 : Vec F S1x1024x3584 .bf16) (x3 : Vec F S1x3584x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tbl.view.loc (c : Thread nD τ) ↦{fullShare.right} T0) ∗ (cnt.view.loc (c : Thread nD τ) ↦{fullShare.right} T1) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tbl.view.loc (c : Thread nD τ) ↦{fullShare.right} T0) ∗ (cnt.view.loc (c : Thread nD τ) ↦{fullShare.right} T1) ∗ owns (c : Thread nD τ) arg7 fullShare (k0_pay1 x0 x1 x2 x3)) -∗ K ⟨⟩))
      ⊢ wp frame (wpE (defs₀ (F := F)) Variants.none c none) Set.univ (cc0_moe i tbl (Memref.isWhole_whole _) cnt (Memref.isWhole_whole _) arg3 harg3 arg4 harg4 arg5 harg5 arg6 harg6 arg7 harg7) K := by
  rw [cc0_moe_eq_skeleton]; unfold cc0_moe_skel
  unfold owns
  iintro ⟨⟨%f0, %hf0, H0⟩, ⟨%f1, %hf1, H1⟩, ⟨%f2, %hf2, H2⟩, ⟨%f3, %hf3, H3⟩, HT0, HT1, ⟨%d4, %f4, -, H4⟩, Hk⟩
  obtain rfl := harg3.eq_unread hf0; obtain rfl := harg4.eq_unread hf1; obtain rfl := harg5.eq_unread hf2; obtain rfl := harg6.eq_unread hf3
  have hT0 : tbl.IsWhole := Memref.isWhole_whole _
  have hT1 : cnt.IsWhole := Memref.isWhole_whole _
  unfold words at hc
  sl_exec! (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  iexists _; isplitr; swap; · iexact H4
  ipureintro; exact stored_eq harg3 harg4 harg5 harg6 _ _ x0 x1 x2 x3

set_option maxHeartbeats 2000000 in
/-- Past the filled blocks the body stores nothing. -/
theorem run_empty (c : Dev nD) (i : grid0.Coords) (arg3 : Memref sig .tc .vmem S256x512 .i32) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S256x1024 .bf16) (harg7 : arg7.IsWhole) (T0 : S140.Idx → Elt F .i32) (T1 : S1.Idx → Elt F .i32)
    (hc : ¬ words i T1 = 1#1) (x0 : Vec F S256x512 .i32) (x1 : Vec F S1x1024x3584 .bf16) (x2 : Vec F S1x1024x3584 .bf16) (x3 : Vec F S1x3584x1024 .bf16) (y : Vec F S256x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tbl.view.loc (c : Thread nD τ) ↦{fullShare.right} T0) ∗ (cnt.view.loc (c : Thread nD τ) ↦{fullShare.right} T1) ∗ owns (c : Thread nD τ) arg7 fullShare y
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tbl.view.loc (c : Thread nD τ) ↦{fullShare.right} T0) ∗ (cnt.view.loc (c : Thread nD τ) ↦{fullShare.right} T1) ∗ owns (c : Thread nD τ) arg7 fullShare y) -∗ K ⟨⟩))
      ⊢ wp frame (wpE (defs₀ (F := F)) Variants.none c none) Set.univ (cc0_moe i tbl (Memref.isWhole_whole _) cnt (Memref.isWhole_whole _) arg3 harg3 arg4 harg4 arg5 harg5 arg6 harg6 arg7 harg7) K := by
  rw [cc0_moe_eq_skeleton]; unfold cc0_moe_skel
  unfold owns
  iintro ⟨⟨%f0, %hf0, H0⟩, ⟨%f1, %hf1, H1⟩, ⟨%f2, %hf2, H2⟩, ⟨%f3, %hf3, H3⟩, HT0, HT1, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  have hT0 : tbl.IsWhole := Memref.isWhole_whole _
  have hT1 : cnt.IsWhole := Memref.isWhole_whole _
  unfold words at hc
  sl_exec! (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  iexists _; isplitr; · ipureintro; exact harg7.read_unread _
  iexact H4

/-! ## The proof data -/

variable (a : (pcfg0 (F := F)).Adm)

abbrev ms0 (t : Fin (cfg0 a).N) : Memref sig .tc .vmem S256x512 .i32 := spec0_0.stage ((cfg0 a).slots t (0 : Fin 5))
abbrev hs0 (t : Fin (cfg0 a).N) : (ms0 a t).IsWhole := hstage0_0 (((cfg0 a).slots t (0 : Fin 5)).cast nbuf0_0)
abbrev ms1 (t : Fin (cfg0 a).N) : Memref sig .tc .vmem S1x1024x3584 .bf16 := spec0_1.stage ((cfg0 a).slots t (1 : Fin 5))
abbrev hs1 (t : Fin (cfg0 a).N) : (ms1 a t).IsWhole := hstage0_1 (((cfg0 a).slots t (1 : Fin 5)).cast nbuf0_1)
abbrev ms2 (t : Fin (cfg0 a).N) : Memref sig .tc .vmem S1x1024x3584 .bf16 := spec0_2.stage ((cfg0 a).slots t (2 : Fin 5))
abbrev hs2 (t : Fin (cfg0 a).N) : (ms2 a t).IsWhole := hstage0_2 (((cfg0 a).slots t (2 : Fin 5)).cast nbuf0_2)
abbrev ms3 (t : Fin (cfg0 a).N) : Memref sig .tc .vmem S1x3584x1024 .bf16 := spec0_3.stage ((cfg0 a).slots t (3 : Fin 5))
abbrev hs3 (t : Fin (cfg0 a).N) : (ms3 a t).IsWhole := hstage0_3 (((cfg0 a).slots t (3 : Fin 5)).cast nbuf0_3)
abbrev ms4 (t : Fin (cfg0 a).N) : Memref sig .tc .vmem S256x1024 .bf16 := spec0_4.stage ((cfg0 a).slots t (4 : Fin 5))
abbrev hs4 (t : Fin (cfg0 a).N) : (ms4 a t).IsWhole := hstage0_4 (((cfg0 a).slots t (4 : Fin 5)).cast nbuf0_4)

/-- A window's block at a point, read off its array. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- The block a filled point computes. -/
def blockAt (c : Dev nD) (t : Fin (cfg0 a).N) : Vec F S256x1024 .bf16 :=
  k0_pay1 (iblk m a c (0 : Fin 5) t) (iblk m a c (1 : Fin 5) t) (iblk m a c (2 : Fin 5) t) (iblk m a c (3 : Fin 5) t)

/-- The arrays as the kernel finds them, and the inputs' buffers at their blocks. -/
def data (c : Dev nD) : Dat τ (Elt F) Unit ℕ (UR sig nD τ) ℕ (cfg0 a) c where
  A w := V m c (Pipeline.arrRef spec0 w)
  after w t := match w with
    | ⟨0, _⟩ => iblk m a c (0 : Fin 5) t
    | ⟨1, _⟩ => iblk m a c (1 : Fin 5) t
    | ⟨2, _⟩ => iblk m a c (2 : Fin 5) t
    | ⟨3, _⟩ => iblk m a c (3 : Fin 5) t
    | ⟨4, _⟩ => blockAt m a c t
  Φ _ := iprop(Pipeline.ΦA spec0 c ∗ Pipeline.ΦT pre0 a.1 c)
  q _ := fullShare
  owed _ := 0

/-- The result's window is the one of which not every block is named; -/
def loose : Fin (cfg0 a).W → Bool
  | ⟨4, _⟩ => true
  | _ => false

/-- of it, a filled point's block is the one computed there. -/
def meets (c : Dev nD) : (w : Fin (cfg0 a).W) → (t : Fin (cfg0 a).N) → (((cfg0 a).win w).block.Idx → Elt F ((cfg0 a).win w).elt) → Prop
  | ⟨4, _⟩, t, X => words ((cfg0 a).grid.coords t) (a.1 1) = 1#1 → X = blockAt m a c t
  | _, _, _ => True

/-- The data of the run: exact of the inputs, and `meets` of the result. -/
abbrev rdata (c : Dev nD) : RDat τ (Elt F) Unit ℕ (UR sig nD τ) ℕ (cfg0 a) c := (data m a c).toRRel (loose a) (meets m a c)

theorem after_0 (c : Dev nD) (t : Fin (cfg0 a).N) : (data m a c).after (0 : Fin 5) t = iblk m a c (0 : Fin 5) t := rfl
theorem after_1 (c : Dev nD) (t : Fin (cfg0 a).N) : (data m a c).after (1 : Fin 5) t = iblk m a c (1 : Fin 5) t := rfl
theorem after_2 (c : Dev nD) (t : Fin (cfg0 a).N) : (data m a c).after (2 : Fin 5) t = iblk m a c (2 : Fin 5) t := rfl
theorem after_3 (c : Dev nD) (t : Fin (cfg0 a).N) : (data m a c).after (3 : Fin 5) t = iblk m a c (3 : Fin 5) t := rfl
theorem before_0 (c : Dev nD) (t : Fin (cfg0 a).N) (d) : (data m a c).before (0 : Fin 5) t d = iblk m a c (0 : Fin 5) t :=
  ((data m a c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfg0 a).N) (d) : (data m a c).before (1 : Fin 5) t d = iblk m a c (1 : Fin 5) t :=
  ((data m a c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfg0 a).N) (d) : (data m a c).before (2 : Fin 5) t d = iblk m a c (2 : Fin 5) t :=
  ((data m a c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfg0 a).N) (d) : (data m a c).before (3 : Fin 5) t d = iblk m a c (3 : Fin 5) t :=
  ((data m a c).before_in_eq_fetched (3 : Fin 5) rfl (fun _ => rfl) (fun _ _ _ => rfl) (fun t => by rw [after_3]; unfold Dat.blockOf iblk; rfl) t d).trans
    (by unfold Dat.fetched Dat.blockOf iblk; rfl)

/-- The tables as the kernel holds them, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-! ## The body obligation -/

/-- The body as the pipeline calls it at a point. -/
abbrev bodyAt (t : Fin (cfg0 a).N) : Prog (TpuEff nD τ sig (Elt F) Λ₀ .tc) PUnit :=
  cc0_moe ((cfg0 a).grid.coords t) tbl (Memref.isWhole_whole _) cnt (Memref.isWhole_whole _) (ms0 a t) (hs0 a t) (ms1 a t) (hs1 a t) (ms2 a t) (hs2 a t) (ms3 a t) (hs3 a t) (ms4 a t) (hs4 a t)

set_option maxHeartbeats 4000000 in
theorem body_sound (c : Dev nD) (t : Fin (cfg0 a).N) :
    iprop((data m a c).Φ t.castSucc ∗ (data m a c).owesAt () t.castSucc
        ∗ (∃ d, owns (c : Thread nD τ) (ms0 a t) fullShare ((data m a c).before (0 : Fin 5) t d))
        ∗ (∃ d, owns (c : Thread nD τ) (ms1 a t) fullShare ((data m a c).before (1 : Fin 5) t d))
        ∗ (∃ d, owns (c : Thread nD τ) (ms2 a t) fullShare ((data m a c).before (2 : Fin 5) t d))
        ∗ (∃ d, owns (c : Thread nD τ) (ms3 a t) fullShare ((data m a c).before (3 : Fin 5) t d))
        ∗ (∃ Y, ⌜(rdata m a c).Finds (4 : Fin 5) t Y⌝ ∗ owns (c : Thread nD τ) (ms4 a t) fullShare Y))
      ⊢ wp frame (wpE (defs₀ (F := F)) Variants.none c none) Set.univ (bodyAt a t) fun _ =>
          iprop((data m a c).Φ t.succ ∗ (data m a c).owesAt () t.succ
            ∗ owns (c : Thread nD τ) (ms0 a t) fullShare ((data m a c).after (0 : Fin 5) t)
            ∗ owns (c : Thread nD τ) (ms1 a t) fullShare ((data m a c).after (1 : Fin 5) t)
            ∗ owns (c : Thread nD τ) (ms2 a t) fullShare ((data m a c).after (2 : Fin 5) t)
            ∗ owns (c : Thread nD τ) (ms3 a t) fullShare ((data m a c).after (3 : Fin 5) t)
            ∗ (∃ X, ⌜meets m a c (4 : Fin 5) t X⌝ ∗ owns (c : Thread nD τ) (ms4 a t) fullShare X)) := by
  simp only [before_0, before_1, before_2, before_3, after_0, after_1, after_2, after_3]
  rw [show (data m a c).Φ t.succ = iprop(Pipeline.ΦA spec0 c ∗ Pipeline.ΦT pre0 a.1 c) from rfl,
    show (data m a c).Φ t.castSucc = iprop(Pipeline.ΦA spec0 c ∗ Pipeline.ΦT pre0 a.1 c) from rfl,
    show (data m a c).owesAt () t.succ = (data m a c).owesAt () t.castSucc from rfl]
  rw [show (Pipeline.ΦT pre0 a.1 c : sProp 𝕄) = _ from tables_eq c (fun _ => fullShare.right) a.1]
  iintro ⟨⟨HΦ, HT0, HT1⟩, Ho, ⟨%d0, H0⟩, ⟨%d1, H1⟩, ⟨%d2, H2⟩, ⟨%d3, H3⟩, ⟨%d4, -, H4⟩⟩
  by_cases hc : words ((cfg0 a).grid.coords t) (a.1 1) = 1#1
  · iapply (run_filled c ((cfg0 a).grid.coords t) _ (hs0 a t) _ (hs1 a t) _ (hs2 a t) _ (hs3 a t) _ (hs4 a t) (a.1 0) (a.1 1) hc (iblk m a c (0 : Fin 5) t) (iblk m a c (1 : Fin 5) t) (iblk m a c (2 : Fin 5) t) (iblk m a c (3 : Fin 5) t) _)
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    iintro ⟨H0, H1, H2, H3, HT0, HT1, H4⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexists _; isplitr; swap; · iexact H4
    ipureintro; exact fun _ => rfl
  · iapply (run_empty c ((cfg0 a).grid.coords t) _ (hs0 a t) _ (hs1 a t) _ (hs2 a t) _ (hs3 a t) _ (hs4 a t) (a.1 0) (a.1 1) hc (iblk m a c (0 : Fin 5) t) (iblk m a c (1 : Fin 5) t) (iblk m a c (2 : Fin 5) t) (iblk m a c (3 : Fin 5) t) d4 _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    iintro ⟨H0, H1, H2, H3, HT0, HT1, H4⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexists _; isplitr; swap; · iexact H4
    ipureintro; exact fun h => absurd h hc

theorem body_row (t : Fin (cfg0 a).N) :
    defs₀ (F := F) .tc (cfg0 a).body ((cfg0 a).bodyArgs t ((cfg0 a).slots t)) = bodyAt a t := by
  unfold defs₀; rw [Defs.onTc_tc]

theorem body_obligation (c : Dev nD) :
    BodyObligationRel (data (F := F) m a c) (defs₀ (F := F)) Variants.none () Set.univ (loose a) (meets m a c) := fun t => by
  rw [bigSep_W0, body_row]
  exact (body_sound m a c t).trans (wp_mono _ _ _ fun _ => by rw [bigSep_W0]; exact .rfl)

/-! ## The run -/

set_option backward.isDefEq.respectTransparency.types false in
/-- With the tables those of the launch, the kernel runs to its end, its arrays at what the data say, every counter back at zero. -/
theorem run_all (hpf : ∀ (c : Dev nD) (k : Fin 2), V m c (pre0.ref k) = a.1 k) :
    θ_run defs (onTc (τ := τ) (main (F := F))) (s₀ m ρ) (fun r => RDat.FramePost (cfg0 a) (rdata m a) (V m) r ∧ r.2.sem = fun _ => 0) :=
  Pipeline.RDat.θ_run_frameP (Q' := _) pcfgs (fun _ => a) (0 : Fin 1) launch0 defs₀ Variants.none (rdata m a) m ρ main
    (hbody := fun c => (body_obligation m a c).toRRel) (hshare := fun c w => (data m a c).share_full (fun _ => rfl) w)
    (howed := fun _ _ => rfl) (V := V m) (hmain := hmain m Variants.none) (hA := fun _ _ => rfl) (hpf := hpf) (hΦ := fun _ _ => rfl)

theorem run_main (hpf : ∀ (c : Dev nD) (k : Fin 2), V m c (pre0.ref k) = a.1 k) :
    θ_run defs (onTc (τ := τ) (main (F := F))) (s₀ m ρ) (RDat.FramePost (cfg0 a) (rdata m a) (V m)) :=
  (θ_run defs _ _).mono (fun _ h => h.1) (run_all m ρ a hpf)

theorem rest (b : Ref sig .tc) (h : b.isScoped = false) (hw : ∀ w, (spec0 w).arr.view.ref ≠ b) : b ∈ Pipeline.restRefs sig (cfg0 a).spec :=
  Pipeline.mem_restRefs_of b h hw

/-- What the run leaves in the arguments: what the launch held. -/
theorem args_kept {r : PUnit × MemSt nD τ sig (Elt F)} (h : RDat.FramePost (cfg0 a) (rdata m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c (0 : Fin 5) rfl).trans (V_main_arg0 m c),
   ((h c).2 main_arg1 (rest a main_arg1 (by decide) (by decide))).trans (V_main_arg1 m c),
   ((h c).2 main_arg2 (rest a main_arg2 (by decide) (by decide))).trans (V_main_arg2 m c),
   ((h c).2 main_arg3 (rest a main_arg3 (by decide) (by decide))).trans (V_main_arg3 m c),
   ((h c).2 main_arg4 (rest a main_arg4 (by decide) (by decide))).trans (V_main_arg4 m c),
   ((h c).2 main_arg5 (rest a main_arg5 (by decide) (by decide))).trans (V_main_arg5 m c)⟩

/-- The arguments end unchanged and every counter at zero. -/
theorem quiescent (hpf : ∀ (c : Dev nD) (k : Fin 2), V m c (pre0.ref k) = a.1 k) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m a h.1, h.2⟩) (run_all m ρ a hpf)

end Cert.MoeIdeal.Hand

end
-- ==== Proof.MoeTables.lean ====
/- The two tables the experts' kernel is launched with, as its precondition bounds them: each block's expert is one of the eight, and the
   count of filled blocks is between one and the number of blocks. Then every window's block lies inside its array, and the block
   indices are the ones the kernel means. -/
module

public import proofs.«01_k».proof.Proof.MoeRun
public import proofs.«01_k».proof.Proof.Gen.Pre_moe_tables
public import Idealize.ShloMosaic.Lib.WordArith
public import Idealize.ShloMosaic.Lib.Affine

@[expose] public section

set_option maxRecDepth 16384

noncomputable section

namespace Cert.MoeIdeal.Hand

open Cert.MoeIdeal Cert.MoeIdeal.Gen
open Idealize.ShloMosaic Idealize.ShloMosaic.TcCoe
open Idealize.ShloMosaic.WordArith Idealize.ShloMosaic.WordCmp

variable {F : FTy → Type} [FloatOps F]

/-- A block's expert is below eight; the count of filled blocks is at least one and at most all of them. -/
structure Bounded (pf : pre0.Contents (Elt F)) : Prop where
  expert : ∀ i : S140.Idx, (show BitVec 32 from pf 0 i).toNat < 8
  pos : ∀ j : S1.Idx, 1 ≤ (show BitVec 32 from pf 1 j).toNat
  le : ∀ j : S1.Idx, (show BitVec 32 from pf 1 j).toNat ≤ 140

/-- A point's block, as an index into the table of experts, and the one index of the count. -/
abbrev blockIx (i : grid0.Coords) : S140.Idx := fun a => match a with | ⟨0, _⟩ => ⟨(i 0).val, (i 0).isLt⟩
abbrev oneIx : S1.Idx := fun a => match a with | ⟨0, _⟩ => ⟨0, Nat.one_pos⟩

theorem coord_lt (i : grid0.Coords) : (i 0).val < 140 := (i 0).isLt

theorem word_coord (i : grid0.Coords) : (BitVec.ofNat 32 (i 0).val).toNat = (i 0).val := by
  have := coord_lt i
  rw [BitVec.toNat_ofNat]; exact Nat.mod_eq_of_lt (by omega)

theorem expert_at (pf : pre0.Contents (Elt F)) (i : grid0.Coords) (h) :
    pf.at 0 (Rect.unit (s := S140) (k0_off1 i) S1.size h) numel1_S1 = pf 0 (blockIx i) := by
  refine congrArg (pf 0) (funext fun a => Fin.ext ?_)
  match a with
  | ⟨0, _⟩ =>
    show (BitVec.ofNat 32 (i 0).val).toNat + 0 * 1 = (i 0).val
    rw [word_coord]; rfl

theorem count_at (pf : pre0.Contents (Elt F)) (h) :
    pf.at 1 (Rect.unit (s := S1) ![0] S1.size h) numel1_S1 = pf 1 oneIx :=
  congrArg (pf 1) (funext fun a => Fin.ext (by match a with | ⟨0, _⟩ => rfl))

theorem sub_one_toNat (x : BitVec 32) (h : 1 ≤ x.toNat) : (x - 1#32).toNat = x.toNat - 1 := by
  have := x.isLt
  rw [BitVec.toNat_sub, show (1#32).toNat = 1 from rfl]
  omega

/-- The number of filled blocks. -/
def filled (pf : pre0.Contents (Elt F)) : Nat := (show BitVec 32 from pf 1 oneIx).toNat

/-- A point's expert. -/
def expertOf (pf : pre0.Contents (Elt F)) (i : grid0.Coords) : Nat := (show BitVec 32 from pf 0 (blockIx i)).toNat

theorem rows_index (pf : pre0.Contents (Elt F)) (hb : Bounded pf) (i : grid0.Coords) :
    cc0_transform_0 inb_S1_S1_0 numel1_S1 pf i = ![min (i 0).val (filled pf - 1), 0] := by
  have h1 := hb.pos oneIx
  have h2 := hb.le oneIx
  have h3 := coord_lt i
  have e : (Scalar.subi (show BitVec 32 from pf 1 oneIx) 1#32).toNat = filled pf - 1 := by
    exact sub_one_toNat _ h1
  unfold cc0_transform_0
  dsimp only
  rw [count_at]
  refine funext fun a => ?_
  match a with
  | ⟨0, _⟩ =>
    show (IntOp.minsi (BitVec.ofNat 32 (i 0).val) (Scalar.subi (show BitVec 32 from pf 1 oneIx) 1#32)).toNat = min (i 0).val (filled pf - 1)
    rw [toNat_minsi_of_lt _ _ (by rw [word_coord]; omega) (by rw [e]; unfold filled; omega), word_coord, e]
  | ⟨1, _⟩ => rfl

theorem expert_index1 (pf : pre0.Contents (Elt F)) (i : grid0.Coords) :
    cc0_transform_1 k0_off1_inb numel1_S1 pf i = ![expertOf pf i, 0, 0] := by
  refine funext fun a => ?_
  match a with
  | ⟨0, _⟩ => exact congrArg BitVec.toNat (expert_at pf i (k0_off1_inb i))
  | ⟨1, _⟩ => rfl
  | ⟨2, _⟩ => rfl
theorem expert_index2 (pf : pre0.Contents (Elt F)) (i : grid0.Coords) :
    cc0_transform_2 k0_off1_inb numel1_S1 pf i = ![expertOf pf i, 0, 0] := expert_index1 pf i
theorem expert_index3 (pf : pre0.Contents (Elt F)) (i : grid0.Coords) :
    cc0_transform_3 k0_off1_inb numel1_S1 pf i = ![expertOf pf i, 0, 0] := expert_index1 pf i

/-- Bounded tables keep every block inside its array. -/
theorem ok_of_bounded (pf : pre0.Contents (Elt F)) (hb : Bounded pf) : ok0 pf := by
  have he : ∀ i, expertOf pf i < 8 := fun i => hb.expert (blockIx i)
  refine ⟨fun i => ⟨?_, .inl rfl⟩, fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [rows_index pf hb i]
    have h3 := coord_lt i
    intro a
    match a with
    | ⟨0, _⟩ => show (min (i 0).val (filled pf - 1) + 1) * 256 ≤ 35840; omega
    | ⟨1, _⟩ => show (0 + 1) * 512 ≤ 512; omega
  · rw [expert_index1 pf i]
    have h3 := he i
    intro a
    match a with
    | ⟨0, _⟩ => show (expertOf pf i + 1) * 1 ≤ 8; omega
    | ⟨1, _⟩ => show (0 + 1) * 1024 ≤ 1024; omega
    | ⟨2, _⟩ => show (0 + 1) * 3584 ≤ 3584; omega
  · rw [expert_index2 pf i]
    have h3 := he i
    intro a
    match a with
    | ⟨0, _⟩ => show (expertOf pf i + 1) * 1 ≤ 8; omega
    | ⟨1, _⟩ => show (0 + 1) * 1024 ≤ 1024; omega
    | ⟨2, _⟩ => show (0 + 1) * 3584 ≤ 3584; omega
  · rw [expert_index3 pf i]
    have h3 := he i
    intro a
    match a with
    | ⟨0, _⟩ => show (expertOf pf i + 1) * 1 ≤ 8; omega
    | ⟨1, _⟩ => show (0 + 1) * 3584 ≤ 3584; omega
    | ⟨2, _⟩ => show (0 + 1) * 1024 ≤ 1024; omega

/-- The body's test says whether the block is one of the filled ones. -/
theorem words_iff (pf : pre0.Contents (Elt F)) (hb : Bounded pf) (i : grid0.Coords) :
    words (F := F) i (pf 1) = 1#1 ↔ (i 0).val < filled pf := by
  have h1 := hb.le oneIx
  have h3 := coord_lt i
  have e : words (F := F) i (pf 1) = k0_cond1 i (pf 1 oneIx) := congrArg (k0_cond1 i) (count_at pf inb_S1_S1_0)
  rw [e]
  have e1 : Scalar.cmpi .slt (BitVec.ofNat 32 (i 0).val) (show BitVec 32 from pf 1 oneIx) = BitVec.ofBool (decide ((i 0).val < filled pf)) := by
    refine (cmpi_slt_of_lt (by rw [word_coord]; omega) (by omega)).trans ?_
    rw [word_coord]; rfl
  show Scalar.cmpi .ne (Scalar.extui (Scalar.cmpi .slt (BitVec.ofNat 32 (i 0).val) (show BitVec 32 from pf 1 oneIx))) 0#32 = 1#1 ↔ _
  rw [e1]
  by_cases h : (i 0).val < filled pf
  · simp only [h, decide_true, iff_true]; decide
  · simp only [h, decide_false, iff_false]; decide

/-! ## From the precondition -/

/-- The precondition, all ones, bounds the two tables. -/
theorem bounded_of_pre (pf : pre0.Contents (Elt F)) (x0 x3 x4 x5)
    (h : Cert.Pre_moe_tables.fn (F := F) x0 (pf 0) (pf 1) x3 x4 x5 = fun _ => 1#1) : Bounded pf := by
  have h1 : ∀ j : S1.Idx, j = oneIx := fun j => funext fun a => Fin.ext (by match a with | ⟨0, _⟩ => exact Nat.lt_one_iff.mp (j 0).isLt)
  have key : ∀ i : S140.Idx, ((show BitVec 32 from pf 0 i).toNat < 8) ∧ 1 ≤ (show BitVec 32 from pf 1 oneIx).toNat
      ∧ (show BitVec 32 from pf 1 oneIx).toNat ≤ 140 := fun i => by
    obtain ⟨j, j', hi⟩ : ∃ j j' : S1.Idx, IntOp.andi (IntOp.andi (IntOp.andi (IntOp.cmpi .sge (show BitVec 32 from pf 0 i) 0#32)
        (IntOp.cmpi .slt (show BitVec 32 from pf 0 i) 8#32)) (IntOp.cmpi .sge (show BitVec 32 from pf 1 j) 1#32))
        (IntOp.cmpi .sle (show BitVec 32 from pf 1 j') 140#32) = 1#1 := ⟨_, _, congrFun h i⟩
    rw [h1 j, h1 j', andi_sge_zero_slt_ofNat (by decide), cmpi_sge_eq, cmpi_sle_eq, WordCmp.andi_ofBool, WordCmp.andi_ofBool, ← Bool.decide_and, ← Bool.decide_and,
      ofBool_decide_eq_one_iff] at hi
    obtain ⟨⟨he, hp⟩, hl⟩ := hi
    have hn : (0 : Int) ≤ (show BitVec 32 from pf 1 oneIx).toInt := le_trans (by decide) hp
    rw [toInt_eq_toNat_of_lt_half ((toInt_nonneg_iff_lt_half _).mp hn)] at hp hl
    exact ⟨he, Int.ofNat_le.mp hp, Int.ofNat_le.mp hl⟩
  let i0 : S140.Idx := fun a => match a with | ⟨0, _⟩ => ⟨0, show 0 < 140 by decide⟩
  exact ⟨fun i => (key i).1, fun j => (h1 j) ▸ (key i0).2.1, fun j => (h1 j) ▸ (key i0).2.2⟩

/-! ## The launch's own tables -/

variable (m : (ℓ : Loc nD τ sig) → Buf (Elt F) ℓ)

/-- The tables of the launch (there is one device). -/
abbrev launched : pre0.Contents (Elt F) := fun
  | 0 => m (((0 : Dev nD) : Thread nD τ).loc main_arg1)
  | 1 => m (((0 : Dev nD) : Thread nD τ).loc main_arg2)
  | ⟨_ + 2, h⟩ => absurd h (Nat.not_lt.2 (Nat.le_add_left _ _))

/-- They are the tables the kernel finds. -/
theorem launched_eq (c : Dev nD) (k : Fin 2) : V m c (pre0.ref k) = launched m k := by
  obtain rfl : c = 0 := Subsingleton.elim _ _
  match k with
  | ⟨0, _⟩ => exact V_main_arg1 m 0
  | ⟨1, _⟩ => exact V_main_arg2 m 0

end Cert.MoeIdeal.Hand

end
-- ==== Proof.MoeValue.lean ====
/- What the experts' kernel leaves in the rows of its filled blocks, at the ideal instance: the reference's term of the arguments. -/
module

public import proofs.«01_k».proof.Proof.MoeTables
public import proofs.«01_k».proof.Proof.Gen.MoeReferenceIdeal.Read
public import Idealize.ShloMosaic.Lib.Pipeline.ValueKit

@[expose] public section

set_option maxRecDepth 16384

noncomputable section

namespace Cert.MoeIdeal.Hand

open Cert.MoeIdeal Cert.MoeIdeal.Gen
open Idealize.ShloMosaic Idealize.ShloMosaic.TcCoe Idealize.SL.Sem
open Idealize.ShloMosaic.Pipeline (Dat RDat)

/-! ## The reference's experts: each block's weights are its expert's -/

section Experts

open Cert.MoeReferenceIdeal Cert.MoeReferenceIdeal.Read

/-- The start of block `b`'s slice is its expert. -/
theorem start_24 (x1 : IVec Cert.MoeReferenceIdeal.S140 32) (b : Fin 140) (hb : (x1 (ix1 b)).toNat < 8) :
    val_main_v22 (F := Ideal) x1 (ix2 b 0) = x1 (ix1 b) := by
  have hneg : IntOp.cmpi .slt (x1 (ix1 b)) 0#32 = 0#1 := by
    rw [WordCmp.cmpi_slt_zero, WordCmp.ofBool_decide_eq_zero_iff]; omega
  have e : val_main_v19 (F := Ideal) x1 (ix2 b 0) = x1 (ix1 b) := by
    rw [val_main_v19_apply, val_main_v12_apply]
    have ei : idx_main_v19 (ix2 b 0) = ix1 b := funext fun a => Fin.ext (by match a with | ⟨0, _⟩ => rfl)
    rw [ei]
    exact (congrArg (fun q => Scalar.select q _ _) hneg).trans (if_neg (by decide))
  refine Eq.trans ?_ e
  unfold val_main_v22
  generalize val_main_v19 (F := Ideal) x1 = p0
  generalize (val_main_v20 (F := Ideal)) = p1
  generalize (val_main_v21 (F := Ideal)) = p2
  concat_tiles
  · exact congrArg p0 (funext fun a => Fin.ext (by match a with | ⟨0, _⟩ => exact h0 | ⟨1, _⟩ => exact h1))
  · exact absurd h Nat.zero_ne_one
  · exact absurd h (Nat.zero_ne_add_one 1)

theorem experts_24 (x1 : IVec Cert.MoeReferenceIdeal.S140 32) (x3 : FVec Ideal Cert.MoeReferenceIdeal.S8x1024x3584 .f32) (b : Fin 140) (hb : (x1 (ix1 b)).toNat < 8)
    (k : Fin 1024) (f : Fin 3584) :
    val_main_v24 (F := Ideal) x1 x3 (ix3 b k f) = x3 (ix3 ⟨(x1 (ix1 b)).toNat, hb⟩ k f) := by
  rw [val_main_v24_apply]
  unfold val_main_v23 Host.gather
  have hk := k.isLt
  have hf := f.isLt
  refine congrArg x3 (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, h0⟩ =>
    have hs : (gather_S8x1024x3584_S140x3_S140x1x1024x3584_123_n_n_n_012_1_110243584.siIdx (idx_main_v24 (ix3 b k f)) ⟨0, by decide⟩) = ix2 b 0 := funext fun q => Fin.ext (by
      match q with
      | ⟨0, _⟩ => show ((b.val * 1024 + k.val) * 3584 + f.val) / 3670016 = b.val; omega
      | ⟨1, _⟩ => rfl)
    have e : GatherDims.start gather_S8x1024x3584_S140x3_S140x1x1024x3584_123_n_n_n_012_1_110243584 (idx_main_v24 (ix3 b k f)) (val_main_v22 (F := Ideal) x1) ⟨0, h0⟩
        = min (val_main_v22 (F := Ideal) x1 (gather_S8x1024x3584_S140x3_S140x1x1024x3584_123_n_n_n_012_1_110243584.siIdx (idx_main_v24 (ix3 b k f)) ⟨0, by decide⟩)).toInt.toNat 7 := rfl
    rw [e, hs, start_24 x1 b hb, WordCmp.toInt_eq_toNat_of_lt_half (by omega)]
    show min (Int.toNat ((x1 (ix1 b)).toNat : Int)) 7 + 0 = (x1 (ix1 b)).toNat
    rw [Int.toNat_natCast]; omega
  | ⟨1, h1⟩ =>
    rw [Nat.le_zero.mp (GatherDims.start_le gather_S8x1024x3584_S140x3_S140x1x1024x3584_123_n_n_n_012_1_110243584 _ _ ⟨1, h1⟩)]
    show 0 + ((b.val * 1024 + k.val) * 3584 + f.val) / 3584 % 1024 = k.val
    omega
  | ⟨2, h2⟩ =>
    rw [Nat.le_zero.mp (GatherDims.start_le gather_S8x1024x3584_S140x3_S140x1x1024x3584_123_n_n_n_012_1_110243584 _ _ ⟨2, h2⟩)]
    show 0 + ((b.val * 1024 + k.val) * 3584 + f.val) % 3584 = f.val
    omega

/-- The start of block `b`'s slice is its expert. -/
theorem start_41 (x1 : IVec Cert.MoeReferenceIdeal.S140 32) (b : Fin 140) (hb : (x1 (ix1 b)).toNat < 8) :
    val_main_v39 (F := Ideal) x1 (ix2 b 0) = x1 (ix1 b) := by
  have hneg : IntOp.cmpi .slt (x1 (ix1 b)) 0#32 = 0#1 := by
    rw [WordCmp.cmpi_slt_zero, WordCmp.ofBool_decide_eq_zero_iff]; omega
  have e : val_main_v36 (F := Ideal) x1 (ix2 b 0) = x1 (ix1 b) := by
    rw [val_main_v36_apply, val_main_v29_apply]
    have ei : idx_main_v36 (ix2 b 0) = ix1 b := funext fun a => Fin.ext (by match a with | ⟨0, _⟩ => rfl)
    rw [ei]
    exact (congrArg (fun q => Scalar.select q _ _) hneg).trans (if_neg (by decide))
  refine Eq.trans ?_ e
  unfold val_main_v39
  generalize val_main_v36 (F := Ideal) x1 = p0
  generalize (val_main_v37 (F := Ideal)) = p1
  generalize (val_main_v38 (F := Ideal)) = p2
  concat_tiles
  · exact congrArg p0 (funext fun a => Fin.ext (by match a with | ⟨0, _⟩ => exact h0 | ⟨1, _⟩ => exact h1))
  · exact absurd h Nat.zero_ne_one
  · exact absurd h (Nat.zero_ne_add_one 1)

theorem experts_41 (x1 : IVec Cert.MoeReferenceIdeal.S140 32) (x4 : FVec Ideal Cert.MoeReferenceIdeal.S8x1024x3584 .f32) (b : Fin 140) (hb : (x1 (ix1 b)).toNat < 8)
    (k : Fin 1024) (f : Fin 3584) :
    val_main_v41 (F := Ideal) x1 x4 (ix3 b k f) = x4 (ix3 ⟨(x1 (ix1 b)).toNat, hb⟩ k f) := by
  rw [val_main_v41_apply]
  unfold val_main_v40 Host.gather
  have hk := k.isLt
  have hf := f.isLt
  refine congrArg x4 (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, h0⟩ =>
    have hs : (gather_S8x1024x3584_S140x3_S140x1x1024x3584_123_n_n_n_012_1_110243584.siIdx (idx_main_v41 (ix3 b k f)) ⟨0, by decide⟩) = ix2 b 0 := funext fun q => Fin.ext (by
      match q with
      | ⟨0, _⟩ => show ((b.val * 1024 + k.val) * 3584 + f.val) / 3670016 = b.val; omega
      | ⟨1, _⟩ => rfl)
    have e : GatherDims.start gather_S8x1024x3584_S140x3_S140x1x1024x3584_123_n_n_n_012_1_110243584 (idx_main_v41 (ix3 b k f)) (val_main_v39 (F := Ideal) x1) ⟨0, h0⟩
        = min (val_main_v39 (F := Ideal) x1 (gather_S8x1024x3584_S140x3_S140x1x1024x3584_123_n_n_n_012_1_110243584.siIdx (idx_main_v41 (ix3 b k f)) ⟨0, by decide⟩)).toInt.toNat 7 := rfl
    rw [e, hs, start_41 x1 b hb, WordCmp.toInt_eq_toNat_of_lt_half (by omega)]
    show min (Int.toNat ((x1 (ix1 b)).toNat : Int)) 7 + 0 = (x1 (ix1 b)).toNat
    rw [Int.toNat_natCast]; omega
  | ⟨1, h1⟩ =>
    rw [Nat.le_zero.mp (GatherDims.start_le gather_S8x1024x3584_S140x3_S140x1x1024x3584_123_n_n_n_012_1_110243584 _ _ ⟨1, h1⟩)]
    show 0 + ((b.val * 1024 + k.val) * 3584 + f.val) / 3584 % 1024 = k.val
    omega
  | ⟨2, h2⟩ =>
    rw [Nat.le_zero.mp (GatherDims.start_le gather_S8x1024x3584_S140x3_S140x1x1024x3584_123_n_n_n_012_1_110243584 _ _ ⟨2, h2⟩)]
    show 0 + ((b.val * 1024 + k.val) * 3584 + f.val) % 3584 = f.val
    omega

/-- The start of block `b`'s slice is its expert. -/
theorem start_58 (x1 : IVec Cert.MoeReferenceIdeal.S140 32) (b : Fin 140) (hb : (x1 (ix1 b)).toNat < 8) :
    val_main_v56 (F := Ideal) x1 (ix2 b 0) = x1 (ix1 b) := by
  have hneg : IntOp.cmpi .slt (x1 (ix1 b)) 0#32 = 0#1 := by
    rw [WordCmp.cmpi_slt_zero, WordCmp.ofBool_decide_eq_zero_iff]; omega
  have e : val_main_v53 (F := Ideal) x1 (ix2 b 0) = x1 (ix1 b) := by
    rw [val_main_v53_apply, val_main_v46_apply]
    have ei : idx_main_v53 (ix2 b 0) = ix1 b := funext fun a => Fin.ext (by match a with | ⟨0, _⟩ => rfl)
    rw [ei]
    exact (congrArg (fun q => Scalar.select q _ _) hneg).trans (if_neg (by decide))
  refine Eq.trans ?_ e
  unfold val_main_v56
  generalize val_main_v53 (F := Ideal) x1 = p0
  generalize (val_main_v54 (F := Ideal)) = p1
  generalize (val_main_v55 (F := Ideal)) = p2
  concat_tiles
  · exact congrArg p0 (funext fun a => Fin.ext (by match a with | ⟨0, _⟩ => exact h0 | ⟨1, _⟩ => exact h1))
  · exact absurd h Nat.zero_ne_one
  · exact absurd h (Nat.zero_ne_add_one 1)

theorem experts_58 (x1 : IVec Cert.MoeReferenceIdeal.S140 32) (x5 : FVec Ideal Cert.MoeReferenceIdeal.S8x3584x1024 .f32) (b : Fin 140) (hb : (x1 (ix1 b)).toNat < 8)
    (k : Fin 3584) (f : Fin 1024) :
    val_main_v58 (F := Ideal) x1 x5 (ix3 b k f) = x5 (ix3 ⟨(x1 (ix1 b)).toNat, hb⟩ k f) := by
  rw [val_main_v58_apply]
  unfold val_main_v57 Host.gather
  have hk := k.isLt
  have hf := f.isLt
  refine congrArg x5 (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, h0⟩ =>
    have hs : (gather_S8x3584x1024_S140x3_S140x1x3584x1024_123_n_n_n_012_1_135841024.siIdx (idx_main_v58 (ix3 b k f)) ⟨0, by decide⟩) = ix2 b 0 := funext fun q => Fin.ext (by
      match q with
      | ⟨0, _⟩ => show ((b.val * 3584 + k.val) * 1024 + f.val) / 3670016 = b.val; omega
      | ⟨1, _⟩ => rfl)
    have e : GatherDims.start gather_S8x3584x1024_S140x3_S140x1x3584x1024_123_n_n_n_012_1_135841024 (idx_main_v58 (ix3 b k f)) (val_main_v56 (F := Ideal) x1) ⟨0, h0⟩
        = min (val_main_v56 (F := Ideal) x1 (gather_S8x3584x1024_S140x3_S140x1x3584x1024_123_n_n_n_012_1_135841024.siIdx (idx_main_v58 (ix3 b k f)) ⟨0, by decide⟩)).toInt.toNat 7 := rfl
    rw [e, hs, start_58 x1 b hb, WordCmp.toInt_eq_toNat_of_lt_half (by omega)]
    show min (Int.toNat ((x1 (ix1 b)).toNat : Int)) 7 + 0 = (x1 (ix1 b)).toNat
    rw [Int.toNat_natCast]; omega
  | ⟨1, h1⟩ =>
    rw [Nat.le_zero.mp (GatherDims.start_le gather_S8x3584x1024_S140x3_S140x1x3584x1024_123_n_n_n_012_1_135841024 _ _ ⟨1, h1⟩)]
    show 0 + ((b.val * 3584 + k.val) * 1024 + f.val) / 1024 % 3584 = k.val
    omega
  | ⟨2, h2⟩ =>
    rw [Nat.le_zero.mp (GatherDims.start_le gather_S8x3584x1024_S140x3_S140x1x3584x1024_123_n_n_n_012_1_135841024 _ _ ⟨2, h2⟩)]
    show 0 + ((b.val * 3584 + k.val) * 1024 + f.val) % 1024 = f.val
    omega

end Experts

/-! ## A block's term -/

theorem shift_host (x : BitVec 32) : IntOp.shli .host x 16#32 = IntOp.shli .vector x 16#32 := rfl

set_option maxHeartbeats 1000000 in
open Cert.MoeReferenceIdeal.Read in
/-- A block's term at `y` is the reference's at `i`, when the rows and the weights it is computed of are the reference's there. -/
theorem pay_eq (B0 : Vec Ideal S256x512 .i32) (B1 B2 : Vec Ideal S1x1024x3584 .bf16) (B3 : Vec Ideal S1x3584x1024 .bf16)
    (x0 : IVec Cert.MoeReferenceIdeal.S35840x512 32) (x1 : IVec Cert.MoeReferenceIdeal.S140 32) (x3 x4 : FVec Ideal Cert.MoeReferenceIdeal.S8x1024x3584 .f32)
    (x5 : FVec Ideal Cert.MoeReferenceIdeal.S8x3584x1024 .f32) (y : S256x1024.Idx) (i : Cert.MoeReferenceIdeal.S35840x1024.Idx) (b : Fin 140)
    (hi : (i 0).val / 256 = b.val) (h1 : i 1 = y 1)
    (hB0 : ∀ k, B0 (ix2 (y 0) k) = x0 (ix2 (i 0) k))
    (hB1 : ∀ k f, B1 (ix3 0 k f) = val_main_v24 (F := Ideal) x1 x3 (ix3 b k f))
    (hB2 : ∀ k f, B2 (ix3 0 k f) = val_main_v41 (F := Ideal) x1 x4 (ix3 b k f))
    (hB3 : ∀ f k, B3 (ix3 0 f k) = val_main_v58 (F := Ideal) x1 x5 (ix3 b f k)) :
    k0_pay1 B0 B1 B2 B3 y = val_main_v65 (F := Ideal) x0 x1 x3 x4 x5 i := by
  unfold k0_pay1
  pointwise [val_main_v65, val_main_v64, val_main_v63, val_main_v62, val_main_v61, val_main_v60, val_main_v59, val_main_v7, val_main_v6,
    val_main_v5, val_main_v4, val_main_v3, val_main_v2, val_main_v1, val_main_v0, val_main_c, val_main_c_0,
    val_main_call0_v0, val_main_call0_v1, val_main_call0_v2, val_main_call0_v3,
    val_main_call0_v4, val_main_call0_v5, val_main_call0_cst, val_main_call0_cst_0]
  simp only [Ideal.logistic, hB0, hB1, hB2, hB3, shift_host, hi, h1]
  exact Finset.sum_congr rfl fun f _ => congrArg (_ * ·) (hB3 f (y 1))

end Cert.MoeIdeal.Hand

end
-- ==== Proof.MoeFinal.lean ====
/- What the experts' kernel leaves in the filled rows of its result, at the ideal instance: the reference's term of the arguments. -/
module

public import proofs.«01_k».proof.Proof.MoeValue
public import proofs.«01_k».proof.Proof.Gen.MoeReferenceIdeal.Read
public import Idealize.ShloMosaic.Lib.Pipeline.ValueKit

@[expose] public section

set_option maxRecDepth 16384

noncomputable section

namespace Cert.MoeIdeal.Hand

open Cert.MoeIdeal Cert.MoeIdeal.Gen
open Idealize.ShloMosaic Idealize.ShloMosaic.TcCoe Idealize.SL.Sem
open Idealize.ShloMosaic.Pipeline (Dat RDat)

/-! ## The blocks of a filled point -/

section Blocks

variable (m : (ℓ : Loc nD τ sig) → Buf (Elt Ideal) ℓ)
variable (a : (pcfg0 (F := Ideal)).Adm)

theorem coords_val : ∀ t : Fin grid0.N, (grid0.coords t 0).val = t.val := by decide +kernel

theorem filled_point (t : Fin (cfg0 a).N) (h : t.val < filled a.1) :
    min (grid0.coords t 0).val (filled a.1 - 1) = t.val := by
  rw [coords_val t]; omega

theorem index0 (hb : Bounded a.1) (t : Fin (cfg0 a).N) (h : t.val < filled a.1) : ((cfg0 a).win (0 : Fin 5)).index t = ![t.val, 0] :=
  (rows_index a.1 hb (grid0.coords t)).trans (by rw [filled_point a t h])
theorem index1 (t : Fin (cfg0 a).N) : ((cfg0 a).win (1 : Fin 5)).index t = ![expertOf a.1 (grid0.coords t), 0, 0] :=
  expert_index1 a.1 (grid0.coords t)
theorem index2 (t : Fin (cfg0 a).N) : ((cfg0 a).win (2 : Fin 5)).index t = ![expertOf a.1 (grid0.coords t), 0, 0] :=
  expert_index2 a.1 (grid0.coords t)
theorem index3 (t : Fin (cfg0 a).N) : ((cfg0 a).win (3 : Fin 5)).index t = ![expertOf a.1 (grid0.coords t), 0, 0] :=
  expert_index3 a.1 (grid0.coords t)
theorem index4 (t : Fin (cfg0 a).N) : ((cfg0 a).win (4 : Fin 5)).index t = ![t.val, 0] :=
  (show cc0_transform_4 (grid0.coords t) = ![t.val, 0] by
    unfold cc0_transform_4
    dsimp only
    rw [word_coord, coords_val t]; rfl)

/-! ## The weights as the kernel finds them: the launch's -/

theorem V_main_v0 (c : Dev nD) : (V m c main_v0 : S8x1024x3584.Idx → EReal) = m ((c : Thread nD τ).loc main_arg3) := by
  show StableHlo.after hostOps0 _ (Proc.devRef .tc main_v0) = _
  unfold hostOps0
  rw [StableHlo.after_cons, StableHlo.after_cons, StableHlo.after_cons, StableHlo.after_nil,
    StableHlo.unary_result_ne' _ _ _ _ (by decide), StableHlo.unary_result_ne' _ _ _ _ (by decide), StableHlo.unary_result']
  rfl

theorem V_main_v1 (c : Dev nD) : (V m c main_v1 : S8x1024x3584.Idx → EReal) = m ((c : Thread nD τ).loc main_arg4) := by
  show StableHlo.after hostOps0 _ (Proc.devRef .tc main_v1) = _
  unfold hostOps0
  rw [StableHlo.after_cons, StableHlo.after_cons, StableHlo.after_cons, StableHlo.after_nil,
    StableHlo.unary_result_ne' _ _ _ _ (by decide), StableHlo.unary_result', StableHlo.unary_result_ne' _ _ _ _ (by decide)]
  rfl

theorem V_main_v2 (c : Dev nD) : (V m c main_v2 : S8x3584x1024.Idx → EReal) = m ((c : Thread nD τ).loc main_arg5) := by
  show StableHlo.after hostOps0 _ (Proc.devRef .tc main_v2) = _
  unfold hostOps0
  rw [StableHlo.after_cons, StableHlo.after_cons, StableHlo.after_cons, StableHlo.after_nil,
    StableHlo.unary_result', StableHlo.unary_result_ne' _ _ _ _ (by decide), StableHlo.unary_result_ne' _ _ _ _ (by decide)]
  rfl

/-! ## The blocks, by coordinates -/

theorem row_lt (t : Fin (cfg0 a).N) (r : Fin 256) : t.val * 256 + r.val < 35840 := by
  have h : t.val < 140 := t.isLt
  have := r.isLt
  omega

theorem expert_lt (hb : Bounded a.1) (t : Fin (cfg0 a).N) : expertOf a.1 (grid0.coords t) < 8 := hb.expert _

theorem rows_at (hb : Bounded a.1) (c : Dev nD) (t : Fin (cfg0 a).N) (h : t.val < filled a.1) (r : Fin 256) (k : Fin 512) :
    (iblk m a c (0 : Fin 5) t : Vec Ideal S256x512 .i32) (ix2 r k)
      = (m ((c : Thread nD τ).loc main_arg0) : S35840x512.Idx → BitVec 32) (ix2 ⟨t.val * 256 + r.val, row_lt a t r⟩ k) := by
  refine Eq.trans ?_ (congrFun (V_main_arg0 m c) _)
  unfold iblk
  refine congrArg (V m c main_arg0) ?_
  blk_ext [index0 a hb t h]

theorem first_at (hb : Bounded a.1) (c : Dev nD) (t : Fin (cfg0 a).N) (k : Fin 1024) (f : Fin 3584) :
    (iblk m a c (1 : Fin 5) t : Vec Ideal S1x1024x3584 .bf16) (ix3 0 k f)
      = (m ((c : Thread nD τ).loc main_arg3) : S8x1024x3584.Idx → EReal) (ix3 ⟨_, expert_lt a hb t⟩ k f) := by
  refine Eq.trans ?_ (congrFun (V_main_v0 m c) _)
  unfold iblk
  refine congrArg (V m c main_v0) ?_
  blk_ext [index1 a t]

theorem second_at (hb : Bounded a.1) (c : Dev nD) (t : Fin (cfg0 a).N) (k : Fin 1024) (f : Fin 3584) :
    (iblk m a c (2 : Fin 5) t : Vec Ideal S1x1024x3584 .bf16) (ix3 0 k f)
      = (m ((c : Thread nD τ).loc main_arg4) : S8x1024x3584.Idx → EReal) (ix3 ⟨_, expert_lt a hb t⟩ k f) := by
  refine Eq.trans ?_ (congrFun (V_main_v1 m c) _)
  unfold iblk
  refine congrArg (V m c main_v1) ?_
  blk_ext [index2 a t]

theorem third_at (hb : Bounded a.1) (c : Dev nD) (t : Fin (cfg0 a).N) (f : Fin 3584) (k : Fin 1024) :
    (iblk m a c (3 : Fin 5) t : Vec Ideal S1x3584x1024 .bf16) (ix3 0 f k)
      = (m ((c : Thread nD τ).loc main_arg5) : S8x3584x1024.Idx → EReal) (ix3 ⟨_, expert_lt a hb t⟩ f k) := by
  refine Eq.trans ?_ (congrFun (V_main_v2 m c) _)
  unfold iblk
  refine congrArg (V m c main_v2) ?_
  blk_ext [index3 a t]

/-- Where a block of the result lies. -/
theorem place (t : Fin (cfg0 a).N) (y : S256x1024.Idx) :
    ((((cfg0 a).win (4 : Fin 5)).blk t).view.emb y : S35840x1024.Idx) = ix2 ⟨t.val * 256 + (y 0).val, row_lt a t (y 0)⟩ (y 1) := by
  blk_ext [index4 a t]

theorem flush_all : ∀ t : Fin grid0.N, Pipeline.Window.flushOf grid0 true cc0_transform_4 t = true := by decide +kernel

theorem covers : ((cfg0 a).win (4 : Fin 5)).Covers := by
  refine ⟨fun q => by match q with | ⟨0, _⟩ => exact (show 0 < 256 by decide) | ⟨1, _⟩ => exact (show 0 < 1024 by decide), fun β => ?_⟩
  have h0 : (β (0 : Fin 2)).val < 140 := lt_of_lt_of_eq (β (0 : Fin 2)).isLt (show (35840 + 256 - 1) / 256 = 140 by decide)
  have h1 : (β (1 : Fin 2)).val < 1 := lt_of_lt_of_eq (β (1 : Fin 2)).isLt (show (1024 + 1024 - 1) / 1024 = 1 by decide)
  refine ⟨⟨(β (0 : Fin 2)).val, h0⟩, flush_all ⟨(β (0 : Fin 2)).val, h0⟩, fun q => ?_⟩
  match q with
  | ⟨0, _⟩ => exact ⟨congrFun (index4 a ⟨(β (0 : Fin 2)).val, h0⟩) 0, Or.inl rfl⟩
  | ⟨1, _⟩ => exact ⟨(congrFun (index4 a ⟨(β (0 : Fin 2)).val, h0⟩) 1).trans (Nat.lt_one_iff.mp h1).symm, Or.inl rfl⟩

/-! ## The result -/

/-- The reference's result, of a launch's arguments. -/
abbrev expected (c : Dev nD) : S35840x1024.Idx → EReal :=
  Cert.MoeReferenceIdeal.Read.val_main_v65 (F := Ideal) (m ((c : Thread nD τ).loc main_arg0)) (m ((c : Thread nD τ).loc main_arg1))
    (m ((c : Thread nD τ).loc main_arg3)) (m ((c : Thread nD τ).loc main_arg4)) (m ((c : Thread nD τ).loc main_arg5))

theorem expert_eq (hpf : ∀ (c : Dev nD) (k : Fin 2), V m c (pre0.ref k) = a.1 k) (c : Dev nD) (t : Fin (cfg0 a).N) :
    ((m ((c : Thread nD τ).loc main_arg1) : S140.Idx → BitVec 32) (ix1 ⟨t.val, t.isLt⟩)).toNat = expertOf a.1 (grid0.coords t) := by
  have e : (a.1 0 : S140.Idx → BitVec 32) = m ((c : Thread nD τ).loc main_arg1) := (hpf c 0).symm.trans (V_main_arg1 m c)
  rw [← e]
  unfold expertOf
  refine congrArg (fun q => BitVec.toNat ((a.1 0 : S140.Idx → BitVec 32) q)) (funext fun q => Fin.ext ?_)
  match q with
  | ⟨0, _⟩ => exact (coords_val t).symm

theorem point (hb : Bounded a.1) (hpf : ∀ (c : Dev nD) (k : Fin 2), V m c (pre0.ref k) = a.1 k) (c : Dev nD) (t : Fin (cfg0 a).N)
    (h : t.val < filled a.1) (y : S256x1024.Idx) :
    blockAt m a c t y = expected m c (ix2 ⟨t.val * 256 + (y 0).val, row_lt a t (y 0)⟩ (y 1)) := by
  have he := expert_eq m a hpf c t
  have hlt := expert_lt a hb t
  have hy : (y 0).val < 256 := (y 0).isLt
  refine pay_eq _ _ _ _ _ _ _ _ _ y _ ⟨t.val, t.isLt⟩ (show (t.val * 256 + (y 0).val) / 256 = t.val by omega) rfl
    (fun k => rows_at m a hb c t h (y 0) k)
    (fun k f => (first_at m a hb c t k f).trans ?_) (fun k f => (second_at m a hb c t k f).trans ?_) (fun f k => (third_at m a hb c t f k).trans ?_)
  · refine Eq.trans ?_ (experts_24 _ _ ⟨t.val, t.isLt⟩ (he ▸ hlt) k f).symm
    exact congrArg (fun q => (m ((c : Thread nD τ).loc main_arg3) : S8x1024x3584.Idx → EReal) (ix3 q k f)) (Fin.ext he.symm)
  · refine Eq.trans ?_ (experts_41 _ _ ⟨t.val, t.isLt⟩ (he ▸ hlt) k f).symm
    exact congrArg (fun q => (m ((c : Thread nD τ).loc main_arg4) : S8x1024x3584.Idx → EReal) (ix3 q k f)) (Fin.ext he.symm)
  · refine Eq.trans ?_ (experts_58 _ _ ⟨t.val, t.isLt⟩ (he ▸ hlt) f k).symm
    exact congrArg (fun q => (m ((c : Thread nD τ).loc main_arg5) : S8x3584x1024.Idx → EReal) (ix3 q f k)) (Fin.ext he.symm)

/-- After the run a filled row of the result holds the reference's. -/
theorem filled_result (hb : Bounded a.1) (hpf : ∀ (c : Dev nD) (k : Fin 2), V m c (pre0.ref k) = a.1 k)
    {r : PUnit × MemSt nD τ sig (Elt Ideal)} (h : RDat.FramePost (cfg0 a) (rdata m a) (V m) r) (c : Dev nD) (i : S35840x1024.Idx)
    (hi : (i 0).val < filled a.1 * 256) : r.2.mem ((c.tc : Thread nD τ).loc main_v3) i = expected m c i := by
  obtain ⟨after, hL, hA⟩ := h.exists_exact c
  refine (congrFun (hA (4 : Fin 5)) i).trans ?_
  refine Dat.arrAt_forall_of_covers ((rdata m a c).withAfter after) (4 : Fin 5) (fun (i : S35840x1024.Idx) v => (i 0).val < filled a.1 * 256 → v = expected m c i) (covers a)
    (fun t hf y hy => ?_) i (Memref.isWhole_whole _) hi
  have hy0 : (y (0 : Fin 2)).val < 256 := (y (0 : Fin 2)).isLt
  rw [place a t y] at hy ⊢
  have ht : t.val < filled a.1 := by
    have : t.val * 256 + (y (0 : Fin 2)).val < filled a.1 * 256 := hy
    omega
  have hm := (data m a c).toRRel_leaves (w := (4 : Fin 5)) rfl (hL (4 : Fin 5) t hf)
    ((words_iff a.1 hb (grid0.coords t)).mpr (by rw [coords_val t]; exact ht))
  exact (congrFun hm _).trans (point m a hb hpf c t ht y)

end Blocks

end Cert.MoeIdeal.Hand

end
-- ==== Proof.MoeClaim.lean ====
/- The claims about the experts' kernel and its reference. -/
module

public import proofs.«01_k».proof.Defs
public import proofs.«01_k».proof.Proof.MoeFinal
public import proofs.«01_k».proof.Proof.MoeTablesBits
public import proofs.«01_k».proof.Proof.Gen.MoeReferenceIdeal.Read
public import proofs.«01_k».proof.Proof.Gen.On_moe_filled_rows
public import Idealize.ShloMosaic.Lib.Claim
public import Idealize.ShloMosaic.Adequacy
public import Idealize.ShloMosaic.Init

@[expose] public section

set_option maxRecDepth 16384

noncomputable section

namespace Cert.MoeClaim

open Idealize.ShloMosaic Idealize.SL.Sem

theorem frame_kernel : Cert.quiescent_Moe := fun m g hpre =>
  Cert.Moe.Hand.quiescent m g ⟨Cert.Moe.Hand.launched m, Cert.Moe.Hand.ok_of_bounded _ (Cert.Moe.Hand.bounded_of_pre _ _ _ _ _ (hpre 0))⟩
    (Cert.Moe.Hand.launched_eq m)

theorem frame_ideal : Cert.quiescent_MoeIdeal := fun m g hpre =>
  Cert.MoeIdeal.Hand.quiescent m g ⟨Cert.MoeIdeal.Hand.launched m, Cert.MoeIdeal.Hand.ok_of_bounded _ (Cert.MoeIdeal.Hand.bounded_of_pre _ _ _ _ _ (hpre 0))⟩
    (Cert.MoeIdeal.Hand.launched_eq m)

theorem frame_reference : Cert.quiescent_MoeReferenceIdeal := fun m g _ =>
  (θ_run Cert.MoeReferenceIdeal.defs _ _).mono (fun r h => ⟨fun c => (h c).2, sem_eq_zero_of_no_sems (by decide) r.2⟩)
    (Cert.MoeReferenceIdeal.Value.run (F := Ideal) m g)

/-- The rows the claim speaks of are the filled blocks' rows. -/
theorem filled_row (x0 x1 x2 x3 x4 x5) (hle : ((x2 : Cert.MoeIdeal.S1.Idx → BitVec 32) Cert.MoeIdeal.Hand.oneIx).toNat ≤ 140) (i : Cert.MoeIdeal.S35840x1024.Idx)
    (h : Cert.On_moe_filled_rows.fn (F := Ideal) x0 x1 x2 x3 x4 x5 i = 1#1) :
    (i 0).val < ((x2 : Cert.MoeIdeal.S1.Idx → BitVec 32) Cert.MoeIdeal.Hand.oneIx).toNat * 256 := by
  have h0 : (i 0).val < 35840 := (i 0).isLt
  obtain ⟨j, hj⟩ : ∃ j : Cert.MoeIdeal.S1.Idx, IntOp.cmpi .slt (BitVec.ofNat 32 (i 0).val) ((x2 : Cert.MoeIdeal.S1.Idx → BitVec 32) j * 256#32) = 1#1 := ⟨_, h⟩
  have e : j = Cert.MoeIdeal.Hand.oneIx := funext fun a => Fin.ext (by match a with | ⟨0, _⟩ => exact Nat.lt_one_iff.mp (j 0).isLt)
  rw [e] at hj
  have e1 : (BitVec.ofNat 32 (i 0).val).toNat = (i 0).val := by rw [BitVec.toNat_ofNat]; exact Nat.mod_eq_of_lt (by omega)
  have e2 : ((x2 : Cert.MoeIdeal.S1.Idx → BitVec 32) Cert.MoeIdeal.Hand.oneIx * 256#32).toNat = ((x2 : Cert.MoeIdeal.S1.Idx → BitVec 32) Cert.MoeIdeal.Hand.oneIx).toNat * 256 := by
    rw [BitVec.toNat_mul, show (256#32).toNat = 256 from rfl]; exact Nat.mod_eq_of_lt (by omega)
  rw [WordCmp.cmpi_slt_of_lt (by omega) (by omega), WordCmp.ofBool_decide_eq_one_iff, e1, e2] at hj
  exact hj

theorem algebraic : Cert.algebraic_MoeIdeal_MoeReferenceIdeal_on_moe_filled_rows := by
  intro m g m' g' hpre hargs
  have hb := Cert.MoeIdeal.Hand.bounded_of_pre (Cert.MoeIdeal.Hand.launched m) _ _ _ _ (hpre 0)
  refine ⟨fun c => Cert.MoeIdeal.Hand.expected m c, ?_, ?_⟩
  · refine (θ_run Cert.MoeIdeal.defs _ _).mono (fun r h c => ⟨fun i hi => ?_, Cert.MoeIdeal.Hand.args_kept m _ h c⟩)
      (Cert.MoeIdeal.Hand.run_main m g ⟨Cert.MoeIdeal.Hand.launched m, Cert.MoeIdeal.Hand.ok_of_bounded _ hb⟩ (Cert.MoeIdeal.Hand.launched_eq m))
    obtain rfl : c = 0 := Subsingleton.elim _ _
    exact Cert.MoeIdeal.Hand.filled_result m _ hb (Cert.MoeIdeal.Hand.launched_eq m) h 0 i (filled_row _ _ _ _ _ _ (hb.le Cert.MoeIdeal.Hand.oneIx) i hi)
  · refine (θ_run Cert.MoeReferenceIdeal.defs _ _).mono (fun r h c => ⟨fun i hi => ?_, (h c).2⟩)
      (Cert.MoeReferenceIdeal.Value.run (F := Ideal) m' g')
    obtain ⟨a0, a1, a2, a3, a4, a5⟩ := hargs c
    refine (congrFun ((h c).1.trans (Cert.MoeReferenceIdeal.Read.val_main_v65_eq (F := Ideal) m' c)) i).trans ?_
    rw [a0, a1, a3, a4, a5]

end Cert.MoeClaim

end
-- ==== Proof.MergeShift.lean ====
/- The rows before a row of a sequence, as the merge kernel's reference pads them and as the kernel rolls them. -/
module

public import proofs.«01_k».proof.Proof.Gen.MergeIdeal.Frame
public import proofs.«01_k».proof.Proof.Gen.MergeIdeal.Skeleton
public import proofs.«01_k».proof.Proof.Gen.MergeReferenceIdeal.Read
public import Idealize.ShloMosaic.Lib.Pipeline.ValueKit

@[expose] public section

set_option maxRecDepth 16384

noncomputable section

namespace Cert.MergeIdeal.Hand

open Cert.MergeIdeal Cert.MergeIdeal.Gen
open Idealize.ShloMosaic Idealize.ShloMosaic.TcCoe Idealize.SL.Sem
open Idealize.ShloMosaic.Pipeline (Dat)

open Cert.MergeReferenceIdeal.Read in
/-- The padded sequences: two rows of zeros, then the sequence's own rows. -/
theorem padded (x5 : (⟨Cert.MergeReferenceIdeal.S16896x256, .f32⟩ : BufTy).Contents (Elt Ideal)) (b : Fin 4) (s : Fin 4098) (j : Fin 256) :
    val_main_v33 (F := Ideal) x5 (ix3 b s j)
      = if h : s.val < 2 then (0 : EReal) else x5 (ix2 ⟨b.val * 4096 + (s.val - 2), by omega⟩ j) := by
  pointwise [val_main_v33, val_main_v32, val_main_v2, val_main_v0, val_main_cst]

open Cert.MergeReferenceIdeal.Read in
/-- The samples' padded sequences: the two carried rows, then the sequence's own rows. -/
theorem padded_sample (x5 : (⟨Cert.MergeReferenceIdeal.S16896x256, .f32⟩ : BufTy).Contents (Elt Ideal))
    (x11 : (⟨Cert.MergeReferenceIdeal.S128x2x256, .f32⟩ : BufTy).Contents (Elt Ideal)) (b : Fin 128) (s : Fin 6) (j : Fin 256) :
    val_main_v103 (F := Ideal) x5 x11 (ix3 b s j)
      = if h : s.val < 2 then x11 (ix3 b ⟨s.val, h⟩ j) else x5 (ix2 ⟨16384 + b.val * 4 + (s.val - 2), by omega⟩ j) := by
  pointwise [val_main_v103, val_main_v102, val_main_v72]
  simp only [Nat.add_assoc]

variable (m : (ℓ : Loc nD τ sig) → Buf (Elt Ideal) ℓ)

theorem idx : ∀ t : Fin cfg0.N, win0_0.index t = ![min t.val 31, 0] ∧ win0_1.index t = ![0, 0] ∧ win0_2.index t = ![min t.val 31, 0]
    ∧ win0_3.index t = ![0, 0] ∧ win0_4.index t = ![t.val, 0] ∧ win0_5.index t = ![t.val, 0] ∧ win0_6.index t = ![64 * t.val - 1, 0]
    ∧ win0_7.index t = ![t.val, 0] ∧ win0_8.index t = ![min t.val 31, 0] ∧ win0_9.index t = ![0, 0] ∧ win0_10.index t = ![min t.val 31, 0]
    ∧ win0_11.index t = ![0, 0] ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] ∧ win0_20.index t = ![0, 0]
    ∧ win0_21.index t = ![0, 0] ∧ win0_22.index t = ![min t.val 31, 0] ∧ win0_23.index t = ![0, 0] :=
  (by decide +kernel : ∀ t : Fin grid0.N, _)

theorem slt_prompt : ∀ t : Fin cfg0.N, t.val < 32 → Scalar.cmpi .slt (BitVec.ofNat 32 (grid0.coords t 0).val) 32#32 = 1#1 :=
  (by decide +kernel : ∀ t : Fin grid0.N, t.val < 32 → Scalar.cmpi .slt (BitVec.ofNat 32 (grid0.coords t 0).val) 32#32 = 1#1)
theorem slt_sample : ∀ t : Fin cfg0.N, t.val = 32 → Scalar.cmpi .slt (BitVec.ofNat 32 (grid0.coords t 0).val) 32#32 = 0#1 :=
  (by decide +kernel : ∀ t : Fin grid0.N, t.val = 32 → Scalar.cmpi .slt (BitVec.ofNat 32 (grid0.coords t 0).val) 32#32 = 0#1)

theorem select_first {α : Type} (t : Fin cfg0.N) (h : t.val < 32) (x y : α) :
    Scalar.select (Scalar.cmpi .slt (BitVec.ofNat 32 (grid0.coords t 0).val) 32#32) x y = x := by rw [slt_prompt t h]; exact if_pos rfl
theorem select_second {α : Type} (t : Fin cfg0.N) (h : t.val = 32) (x y : α) :
    Scalar.select (Scalar.cmpi .slt (BitVec.ofNat 32 (grid0.coords t 0).val) 32#32) x y = y := by rw [slt_sample t h]; exact if_neg (by decide)

/-- Whether a point begins a sequence, as the kernel finds it. -/
theorem start_cond : ∀ t : Fin cfg0.N,
    (let a : BitVec 32 := BitVec.ofNat 32 (grid0.coords t 0).val
     let v41 : BitVec 32 := Scalar.select (Scalar.cmpi .eq 8#32 0#32) 1#32 8#32
     let v42 : BitVec 32 := Scalar.remsi a v41
     Scalar.cmpi .eq (Scalar.select (Scalar.andi (Scalar.xori (Scalar.cmpi .slt v42 0#32) (Scalar.cmpi .slt v41 0#32)) (Scalar.cmpi .ne v42 0#32))
       (Scalar.addi v42 v41) v42) 0#32) = if t.val % 8 = 0 then 1#1 else 0#1 :=
  (by decide +kernel : ∀ t : Fin grid0.N, _)

/-- The eight rows before a point's block: zeros where a sequence begins. -/
theorem halo (t : Fin cfg0.N) (x6 : Vec Ideal S8x256 .f32) (y : S8x256.Idx) :
    k0_pay7 (BitVec.ofNat 32 (grid0.coords t 0).val) x6 y = if t.val % 8 = 0 then (0 : EReal) else x6 y := by
  unfold k0_pay7
  dsimp only
  rw [start_cond t]
  split
  · pointwise
  · rfl

theorem eq_word : ∀ (k : Fin 512) (n : Fin 2), IntOp.cmpi .eq (BitVec.ofNat 32 k.val) (BitVec.ofNat 32 n.val) = if k.val = n.val then 1#1 else 0#1 := by
  decide +kernel

/-- The rows two before a block's rows: the halo's for the first two rows, the block's own rolled down otherwise. -/
theorem prev_two (t : Fin cfg0.N) (x5 : Vec Ideal S512x256 .f32) (x6 : Vec Ideal S8x256 .f32) (r : Fin 512) (j : Fin 256) :
    k0_pay9 (BitVec.ofNat 32 (grid0.coords t 0).val) x5 x6 (ix2 r j)
      = if h : r.val < 2 then (if t.val % 8 = 0 then (0 : EReal) else x6 (ix2 ⟨r.val + 6, by omega⟩ j)) else x5 (ix2 ⟨r.val - 2, by omega⟩ j) := by
  pointwise [k0_pay9, k0_pay8]
  have e0 := eq_word r 0
  have e1 := eq_word r 1
  simp only [Fin.val_zero, Fin.val_one, Fin.isValue] at e0 e1
  rw [e0, e1, halo, halo]
  by_cases h0 : r.val = 0
  · rw [if_pos h0, dif_pos (by omega)]
    refine (if_pos rfl).trans ?_
    split
    · rfl
    · exact congrArg (fun q => x6 (ix2 q j)) (Fin.ext (show 6 = r.val + 6 by omega))
  · rw [if_neg h0]
    refine (if_neg (by decide)).trans ?_
    by_cases h1 : r.val = 1
    · rw [if_pos h1, dif_pos (by omega)]
      refine (if_pos rfl).trans ?_
      split
      · rfl
      · exact congrArg (fun q => x6 (ix2 q j)) (Fin.ext (show 7 = r.val + 6 by omega))
    · rw [if_neg h1, dif_neg (by omega)]
      refine (if_neg (by decide)).trans ?_
      exact congrArg (fun q => x5 (ix2 q j)) (Fin.ext (show (r.val + 512 - 2) % 512 = r.val - 2 by omega))

/-- The rows one before a prompt block's rows. -/
theorem prev_one (t : Fin cfg0.N) (h : t.val < 32) (x5 x12 : Vec Ideal S512x256 .f32) (x6 : Vec Ideal S8x256 .f32) (r : Fin 512) (j : Fin 256) :
    k0_pay10 (BitVec.ofNat 32 (grid0.coords t 0).val) (Scalar.cmpi .slt (BitVec.ofNat 32 (grid0.coords t 0).val) 32#32) x5 x6 x12 (ix2 r j)
      = if h : r.val < 1 then (if t.val % 8 = 0 then (0 : EReal) else x6 (ix2 ⟨7, by omega⟩ j)) else x5 (ix2 ⟨r.val - 1, by omega⟩ j) := by
  unfold k0_pay10
  dsimp only
  rw [select_first t h]
  pointwise [k0_pay8]
  have e0 := eq_word r 0
  simp only [Fin.val_zero, Fin.isValue] at e0
  rw [e0, halo]
  by_cases h0 : r.val = 0
  · rw [if_pos h0, dif_pos (by omega)]
    exact if_pos rfl
  · rw [if_neg h0, dif_neg (by omega)]
    refine (if_neg (by decide)).trans ?_
    exact congrArg (fun q => x5 (ix2 q j)) (Fin.ext (show (r.val + 512 - 1) % 512 = r.val - 1 by omega))

/-- At the last point the rows one before are the host's. -/
theorem prev_one_sample (t : Fin cfg0.N) (h : t.val = 32) (x5 x12 : Vec Ideal S512x256 .f32) (x6 : Vec Ideal S8x256 .f32) :
    k0_pay10 (BitVec.ofNat 32 (grid0.coords t 0).val) (Scalar.cmpi .slt (BitVec.ofNat 32 (grid0.coords t 0).val) 32#32) x5 x6 x12 = x12 := by
  unfold k0_pay10
  dsimp only
  rw [select_second t h]
  funext y
  pointwise

/-! ## The three rows of a tap -/

theorem row_lt (t : Fin cfg0.N) (r : Fin 512) (h : t.val < 32) : 512 * t.val + r.val < 16384 := by omega

open Cert.MergeReferenceIdeal.Read in
theorem tap_two (c : Dev nD) (t : Fin cfg0.N) (h : t.val < 32) (r : Fin 512) (j : Fin 256) :
    k0_pay9 (BitVec.ofNat 32 (grid0.coords t 0).val) (iblk m c 5 t) (iblk m c 6 t) (ix2 r j)
      = val_main_v34 (F := Ideal) (m ((c : Thread nD τ).loc main_arg5)) (idx_main_v54 (ix2 ⟨512 * t.val + r.val, row_lt t r h⟩ j)) := by
  rw [prev_two, val_main_v34_apply]
  have e : idx_main_v34 (idx_main_v54 (ix2 ⟨512 * t.val + r.val, row_lt t r h⟩ j))
      = ix3 ⟨t.val / 8, by omega⟩ ⟨512 * (t.val % 8) + r.val, by omega⟩ j := by
    funext a; refine Fin.ext ?_
    match a with
    | ⟨0, _⟩ => show ((512 * t.val + r.val) * 256 + j.val) / 1048576 = t.val / 8; omega
    | ⟨1, _⟩ => show ((512 * t.val + r.val) * 256 + j.val) / 256 % 4096 = 512 * (t.val % 8) + r.val; omega
    | ⟨2, _⟩ => show ((512 * t.val + r.val) * 256 + j.val) % 256 = j.val; omega
  rw [e, padded]
  by_cases hr : r.val < 2
  · rw [dif_pos hr]
    by_cases ht : t.val % 8 = 0
    · rw [if_pos ht, dif_pos (show 512 * (t.val % 8) + r.val < 2 by omega)]
    · rw [if_neg ht, dif_neg (show ¬ 512 * (t.val % 8) + r.val < 2 by omega)]
      blk_ext [iblk, V, idx t]
  · rw [dif_neg hr, dif_neg (show ¬ 512 * (t.val % 8) + r.val < 2 by omega)]
    blk_ext [iblk, V, idx t]

open Cert.MergeReferenceIdeal.Read in
theorem tap_one (c : Dev nD) (t : Fin cfg0.N) (h : t.val < 32) (x12 : Vec Ideal S512x256 .f32) (r : Fin 512) (j : Fin 256) :
    k0_pay10 (BitVec.ofNat 32 (grid0.coords t 0).val) (Scalar.cmpi .slt (BitVec.ofNat 32 (grid0.coords t 0).val) 32#32) (iblk m c 5 t) (iblk m c 6 t) x12 (ix2 r j)
      = val_main_v40 (F := Ideal) (m ((c : Thread nD τ).loc main_arg5)) (idx_main_v54 (ix2 ⟨512 * t.val + r.val, row_lt t r h⟩ j)) := by
  rw [prev_one t h, val_main_v40_apply]
  have e : idx_main_v40 (idx_main_v54 (ix2 ⟨512 * t.val + r.val, row_lt t r h⟩ j))
      = ix3 ⟨t.val / 8, by omega⟩ ⟨512 * (t.val % 8) + r.val + 1, by omega⟩ j := by
    funext a; refine Fin.ext ?_
    match a with
    | ⟨0, _⟩ => show ((512 * t.val + r.val) * 256 + j.val) / 1048576 = t.val / 8; omega
    | ⟨1, _⟩ => show 1 + ((512 * t.val + r.val) * 256 + j.val) / 256 % 4096 = 512 * (t.val % 8) + r.val + 1; omega
    | ⟨2, _⟩ => show ((512 * t.val + r.val) * 256 + j.val) % 256 = j.val; omega
  rw [e, padded]
  by_cases hr : r.val < 1
  · rw [dif_pos hr]
    by_cases ht : t.val % 8 = 0
    · rw [if_pos ht, dif_pos (show 512 * (t.val % 8) + r.val + 1 < 2 by omega)]
    · rw [if_neg ht, dif_neg (show ¬ 512 * (t.val % 8) + r.val + 1 < 2 by omega)]
      blk_ext [iblk, V, idx t]
  · rw [dif_neg hr, dif_neg (show ¬ 512 * (t.val % 8) + r.val + 1 < 2 by omega)]
    blk_ext [iblk, V, idx t]

open Cert.MergeReferenceIdeal.Read in
theorem tap_zero (c : Dev nD) (t : Fin cfg0.N) (h : t.val < 32) (r : Fin 512) (j : Fin 256) :
    iblk m c 5 t (ix2 r j)
      = val_main_v47 (F := Ideal) (m ((c : Thread nD τ).loc main_arg5)) (idx_main_v54 (ix2 ⟨512 * t.val + r.val, row_lt t r h⟩ j)) := by
  rw [val_main_v47_apply]
  have e : idx_main_v47 (idx_main_v54 (ix2 ⟨512 * t.val + r.val, row_lt t r h⟩ j))
      = ix3 ⟨t.val / 8, by omega⟩ ⟨512 * (t.val % 8) + r.val + 2, by omega⟩ j := by
    funext a; refine Fin.ext ?_
    match a with
    | ⟨0, _⟩ => show ((512 * t.val + r.val) * 256 + j.val) / 1048576 = t.val / 8; omega
    | ⟨1, _⟩ => show 2 + ((512 * t.val + r.val) * 256 + j.val) / 256 % 4096 = 512 * (t.val % 8) + r.val + 2; omega
    | ⟨2, _⟩ => show ((512 * t.val + r.val) * 256 + j.val) % 256 = j.val; omega
  rw [e, padded, dif_neg (show ¬ 512 * (t.val % 8) + r.val + 2 < 2 by omega)]
  blk_ext [iblk, V, idx t]

end Cert.MergeIdeal.Hand

end
-- ==== Proof.MergeRun.lean ====
/- The run of the merge kernel at the ideal instance, with what it leaves in its two results named.
   Thirty-two points store the prompt's row blocks and the last point stores the samples'; at the last point the
   prompt's buffer still holds the last prompt block, and it is written back once more. -/
module

public import proofs.«01_k».proof.Proof.Gen.MergeIdeal.Frame
public import proofs.«01_k».proof.Proof.Gen.MergeIdeal.Skeleton
public import proofs.«01_k».proof.Proof.Gen.MergeIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points store which result -/

theorem cond_prompt : ∀ t : Fin cfg0.N, k0_cond1 (grid0.coords t) = 1#1 ↔ t.val < 32 :=
  (by decide +kernel : ∀ t : Fin grid0.N, k0_cond1 (grid0.coords t) = 1#1 ↔ t.val < 32)
theorem cond_sample : ∀ t : Fin cfg0.N, k0_cond2 (grid0.coords t) = 1#1 ↔ t.val = 32 :=
  (by decide +kernel : ∀ t : Fin grid0.N, k0_cond2 (grid0.coords t) = 1#1 ↔ t.val = 32)
theorem idle_22 : ∀ t : Fin cfg0.N, cfg0.idle 22 (grid0.coords t) = decide (t.val = 32) :=
  (by decide +kernel : ∀ t : Fin grid0.N, cfg0.idle 22 (grid0.coords t) = decide (t.val = 32))
theorem idle_23 : ∀ t : Fin cfg0.N, cfg0.idle 23 (grid0.coords t) = decide (t.val < 32) :=
  (by decide +kernel : ∀ t : Fin grid0.N, cfg0.idle 23 (grid0.coords t) = decide (t.val < 32))
theorem flush_22 : ∀ t : Fin cfg0.N, (cfg0.win 22).flush t = decide (t.val ≠ 31) :=
  (by decide +kernel : ∀ t : Fin grid0.N, win0_22.flush t = decide (t.val ≠ 31))

/-! ## The body at a point -/

theorem off_zero : (![0, 0] : Fin 2 → Nat) = fun _ => 0 := funext fun a => by fin_cases a <;> rfl

set_option maxHeartbeats 1000000 in
/-- The block a point computes, from the blocks it reads. -/
def block (i : grid0.Coords) (x0 : Vec F S512x1024 .f32) (x1 : Vec F S512x1024 .f32) (x2 : Vec F S512x256 .f32) (x3 : Vec F S512x256 .f32) (x4 : Vec F S512x256 .f32) (x5 : Vec F S512x256 .f32) (x6 : Vec F S8x256 .f32) (x7 : Vec F S512x3072 .bf16) (x8 : Vec F S512x256 .f32) (x9 : Vec F S512x256 .f32) (x10 : Vec F S512x512 .bf16) (x11 : Vec F S512x512 .bf16) (x12 : Vec F S512x256 .f32) (x13 : Vec F S512x256 .f32) (x14 : Vec F S1x256 .f32) (x15 : Vec F S256x256 .bf16) (x16 : Vec F S1x256 .f32) (x17 : Vec F S3x256 .f32) (x18 : Vec F S256x1024 .bf16) (x19 : Vec F S512x1024 .bf16) (x20 : Vec F S256x1024 .bf16) (x21 : Vec F S1024x1024 .bf16) : Vec F S512x1024 .f32 :=
  k0_pay1 (Scalar.cmpi .slt (BitVec.ofNat 32 (i 0).val) 32#32)
      (k0_pay11 (k0_pay2 i x10 x11)
        (k0_pay6 (k0_pay3 i x8 x9 x14 x2 x3)
          (k0_pay4 i x8 x9 x14 x2 x3 x15) (k0_pay5 x16))
        (View.ld x7 (Rect.unit (s := S512x3072) ![0, 0] S512x1024.size inb_S512x3072_S512x1024_0_0)) x18 (View.ld x7 (Rect.unit (s := S512x3072) ![0, 1024] S512x1024.size inb_S512x3072_S512x1024_0_1024)) x19)
      (k0_pay12 (Scalar.cmpi .slt (BitVec.ofNat 32 (i 0).val) 32#32) x5 (k0_pay9 (BitVec.ofNat 32 (i 0).val) x5 x6) (k0_pay10 (BitVec.ofNat 32 (i 0).val) (Scalar.cmpi .slt (BitVec.ofNat 32 (i 0).val) 32#32) x5 x6 x12) x13
        (View.ld x17 (Rect.unit (s := S3x256) ![0, 0] S1x256.size inb_S3x256_S1x256_0_0)) (View.ld x17 (Rect.unit (s := S3x256) ![1, 0] S1x256.size inb_S3x256_S1x256_1_0)) (View.ld x17 (Rect.unit (s := S3x256) ![2, 0] S1x256.size inb_S3x256_S1x256_2_0))
        x4 (View.ld x7 (Rect.unit (s := S512x3072) ![0, 2048] S512x1024.size inb_S512x3072_S512x1024_0_2048)) x20)
      x0 x1 x21

set_option maxHeartbeats 1000000 in
/-- A store of the whole block over whole loads leaves the block's own term. -/
theorem stored_eq {arg1 : Memref sig .tc .vmem S512x1024 .f32} (harg1 : arg1.IsWhole) {arg2 : Memref sig .tc .vmem S512x1024 .f32} (harg2 : arg2.IsWhole) {arg3 : Memref sig .tc .vmem S512x256 .f32} (harg3 : arg3.IsWhole) {arg4 : Memref sig .tc .vmem S512x256 .f32} (harg4 : arg4.IsWhole) {arg5 : Memref sig .tc .vmem S512x256 .f32} (harg5 : arg5.IsWhole) {arg6 : Memref sig .tc .vmem S512x256 .f32} (harg6 : arg6.IsWhole) {arg7 : Memref sig .tc .vmem S8x256 .f32} (harg7 : arg7.IsWhole) {arg8 : Memref sig .tc .vmem S512x3072 .bf16} (harg8 : arg8.IsWhole) {arg9 : Memref sig .tc .vmem S512x256 .f32} (harg9 : arg9.IsWhole) {arg10 : Memref sig .tc .vmem S512x256 .f32} (harg10 : arg10.IsWhole) {arg11 : Memref sig .tc .vmem S512x512 .bf16} (harg11 : arg11.IsWhole) {arg12 : Memref sig .tc .vmem S512x512 .bf16} (harg12 : arg12.IsWhole) {arg13 : Memref sig .tc .vmem S512x256 .f32} (harg13 : arg13.IsWhole) {arg14 : Memref sig .tc .vmem S512x256 .f32} (harg14 : arg14.IsWhole) {arg15 : Memref sig .tc .vmem S1x256 .f32} (harg15 : arg15.IsWhole) {arg16 : Memref sig .tc .vmem S256x256 .bf16} (harg16 : arg16.IsWhole) {arg17 : Memref sig .tc .vmem S1x256 .f32} (harg17 : arg17.IsWhole) {arg18 : Memref sig .tc .vmem S3x256 .f32} (harg18 : arg18.IsWhole) {arg19 : Memref sig .tc .vmem S256x1024 .bf16} (harg19 : arg19.IsWhole) {arg20 : Memref sig .tc .vmem S512x1024 .bf16} (harg20 : arg20.IsWhole) {arg21 : Memref sig .tc .vmem S256x1024 .bf16} (harg21 : arg21.IsWhole) {arg22 : Memref sig .tc .vmem S1024x1024 .bf16} (harg22 : arg22.IsWhole)
    (o : Memref sig .tc .vmem S512x1024 .f32) (f : o.view.ty.Contents (Elt F)) (i : grid0.Coords) (x0 : Vec F S512x1024 .f32) (x1 : Vec F S512x1024 .f32) (x2 : Vec F S512x256 .f32) (x3 : Vec F S512x256 .f32) (x4 : Vec F S512x256 .f32) (x5 : Vec F S512x256 .f32) (x6 : Vec F S8x256 .f32) (x7 : Vec F S512x3072 .bf16) (x8 : Vec F S512x256 .f32) (x9 : Vec F S512x256 .f32) (x10 : Vec F S512x512 .bf16) (x11 : Vec F S512x512 .bf16) (x12 : Vec F S512x256 .f32) (x13 : Vec F S512x256 .f32) (x14 : Vec F S1x256 .f32) (x15 : Vec F S256x256 .bf16) (x16 : Vec F S1x256 .f32) (x17 : Vec F S3x256 .f32) (x18 : Vec F S256x1024 .bf16) (x19 : Vec F S512x1024 .bf16) (x20 : Vec F S256x1024 .bf16) (x21 : Vec F S1024x1024 .bf16) :
    o.view.read (Elt F) (o.view.writes (Elt F) f [⟨Rect.unit (s := S512x1024) ![0, 0] S512x1024.size inb_S512x1024_S512x1024_0_0, k0_pay1 (Scalar.cmpi .slt (BitVec.ofNat 32 (i 0).val) 32#32)
      (k0_pay11 (k0_pay2 i (arg11.view.readAt (Elt F) (Rect.unit (s := S512x512) ![0, 0] S512x512.size inb_S512x512_S512x512_0_0) (harg11.unread x10)) (arg12.view.readAt (Elt F) (Rect.unit (s := S512x512) ![0, 0] S512x512.size inb_S512x512_S512x512_0_0) (harg12.unread x11)))
        (k0_pay6 (k0_pay3 i (arg9.view.readAt (Elt F) (Rect.unit (s := S512x256) ![0, 0] S512x256.size inb_S512x256_S512x256_0_0) (harg9.unread x8)) (arg10.view.readAt (Elt F) (Rect.unit (s := S512x256) ![0, 0] S512x256.size inb_S512x256_S512x256_0_0) (harg10.unread x9)) (arg15.view.readAt (Elt F) (Rect.unit (s := S1x256) ![0, 0] S1x256.size inb_S1x256_S1x256_0_0) (harg15.unread x14)) (arg3.view.readAt (Elt F) (Rect.unit (s := S512x256) ![0, 0] S512x256.size inb_S512x256_S512x256_0_0) (harg3.unread x2)) (arg4.view.readAt (Elt F) (Rect.unit (s := S512x256) ![0, 0] S512x256.size inb_S512x256_S512x256_0_0) (harg4.unread x3)))
          (k0_pay4 i (arg9.view.readAt (Elt F) (Rect.unit (s := S512x256) ![0, 0] S512x256.size inb_S512x256_S512x256_0_0) (harg9.unread x8)) (arg10.view.readAt (Elt F) (Rect.unit (s := S512x256) ![0, 0] S512x256.size inb_S512x256_S512x256_0_0) (harg10.unread x9)) (arg15.view.readAt (Elt F) (Rect.unit (s := S1x256) ![0, 0] S1x256.size inb_S1x256_S1x256_0_0) (harg15.unread x14)) (arg3.view.readAt (Elt F) (Rect.unit (s := S512x256) ![0, 0] S512x256.size inb_S512x256_S512x256_0_0) (harg3.unread x2)) (arg4.view.readAt (Elt F) (Rect.unit (s := S512x256) ![0, 0] S512x256.size inb_S512x256_S512x256_0_0) (harg4.unread x3)) (arg16.view.readAt (Elt F) (Rect.unit (s := S256x256) ![0, 0] S256x256.size inb_S256x256_S256x256_0_0) (harg16.unread x15))) (k0_pay5 (arg17.view.readAt (Elt F) (Rect.unit (s := S1x256) ![0, 0] S1x256.size inb_S1x256_S1x256_0_0) (harg17.unread x16))))
        (arg8.view.readAt (Elt F) (Rect.unit (s := S512x3072) ![0, 0] S512x1024.size inb_S512x3072_S512x1024_0_0) (harg8.unread x7)) (arg19.view.readAt (Elt F) (Rect.unit (s := S256x1024) ![0, 0] S256x1024.size inb_S256x1024_S256x1024_0_0) (harg19.unread x18)) (arg8.view.readAt (Elt F) (Rect.unit (s := S512x3072) ![0, 1024] S512x1024.size inb_S512x3072_S512x1024_0_1024) (harg8.unread x7)) (arg20.view.readAt (Elt F) (Rect.unit (s := S512x1024) ![0, 0] S512x1024.size inb_S512x1024_S512x1024_0_0) (harg20.unread x19)))
      (k0_pay12 (Scalar.cmpi .slt (BitVec.ofNat 32 (i 0).val) 32#32) (arg6.view.readAt (Elt F) (Rect.unit (s := S512x256) ![0, 0] S512x256.size inb_S512x256_S512x256_0_0) (harg6.unread x5)) (k0_pay9 (BitVec.ofNat 32 (i 0).val) (arg6.view.readAt (Elt F) (Rect.unit (s := S512x256) ![0, 0] S512x256.size inb_S512x256_S512x256_0_0) (harg6.unread x5)) (arg7.view.readAt (Elt F) (Rect.unit (s := S8x256) ![0, 0] S8x256.size inb_S8x256_S8x256_0_0) (harg7.unread x6))) (k0_pay10 (BitVec.ofNat 32 (i 0).val) (Scalar.cmpi .slt (BitVec.ofNat 32 (i 0).val) 32#32) (arg6.view.readAt (Elt F) (Rect.unit (s := S512x256) ![0, 0] S512x256.size inb_S512x256_S512x256_0_0) (harg6.unread x5)) (arg7.view.readAt (Elt F) (Rect.unit (s := S8x256) ![0, 0] S8x256.size inb_S8x256_S8x256_0_0) (harg7.unread x6)) (arg13.view.readAt (Elt F) (Rect.unit (s := S512x256) ![0, 0] S512x256.size inb_S512x256_S512x256_0_0) (harg13.unread x12))) (arg14.view.readAt (Elt F) (Rect.unit (s := S512x256) ![0, 0] S512x256.size inb_S512x256_S512x256_0_0) (harg14.unread x13))
        (arg18.view.readAt (Elt F) (Rect.unit (s := S3x256) ![0, 0] S1x256.size inb_S3x256_S1x256_0_0) (harg18.unread x17)) (arg18.view.readAt (Elt F) (Rect.unit (s := S3x256) ![1, 0] S1x256.size inb_S3x256_S1x256_1_0) (harg18.unread x17)) (arg18.view.readAt (Elt F) (Rect.unit (s := S3x256) ![2, 0] S1x256.size inb_S3x256_S1x256_2_0) (harg18.unread x17))
        (arg5.view.readAt (Elt F) (Rect.unit (s := S512x256) ![0, 0] S512x256.size inb_S512x256_S512x256_0_0) (harg5.unread x4)) (arg8.view.readAt (Elt F) (Rect.unit (s := S512x3072) ![0, 2048] S512x1024.size inb_S512x3072_S512x1024_0_2048) (harg8.unread x7)) (arg21.view.readAt (Elt F) (Rect.unit (s := S256x1024) ![0, 0] S256x1024.size inb_S256x1024_S256x1024_0_0) (harg21.unread x20)))
      (arg1.view.readAt (Elt F) (Rect.unit (s := S512x1024) ![0, 0] S512x1024.size inb_S512x1024_S512x1024_0_0) (harg1.unread x0)) (arg2.view.readAt (Elt F) (Rect.unit (s := S512x1024) ![0, 0] S512x1024.size inb_S512x1024_S512x1024_0_0) (harg2.unread x1)) (arg22.view.readAt (Elt F) (Rect.unit (s := S1024x1024) ![0, 0] S1024x1024.size inb_S1024x1024_S1024x1024_0_0) (harg22.unread x21))⟩])
      = block i x0 x1 x2 x3 x4 x5 x6 x7 x8 x9 x10 x11 x12 x13 x14 x15 x16 x17 x18 x19 x20 x21 := by
  refine (View.read_writes_full (s := S512x1024) o.view f inb_S512x1024_S512x1024_0_0 _ []).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  unfold block
  rw [View.ld_unit_zero (S := S512x1024) off_zero inb_S512x1024_S512x1024_0_0 x0]
  rw [View.ld_unit_zero (S := S512x1024) off_zero inb_S512x1024_S512x1024_0_0 x1]
  rw [View.ld_unit_zero (S := S512x256) off_zero inb_S512x256_S512x256_0_0 x2]
  rw [View.ld_unit_zero (S := S512x256) off_zero inb_S512x256_S512x256_0_0 x3]
  rw [View.ld_unit_zero (S := S512x256) off_zero inb_S512x256_S512x256_0_0 x4]
  rw [View.ld_unit_zero (S := S512x256) off_zero inb_S512x256_S512x256_0_0 x5]
  rw [View.ld_unit_zero (S := S8x256) off_zero inb_S8x256_S8x256_0_0 x6]
  rw [View.ld_unit_zero (S := S512x256) off_zero inb_S512x256_S512x256_0_0 x8]
  rw [View.ld_unit_zero (S := S512x256) off_zero inb_S512x256_S512x256_0_0 x9]
  rw [View.ld_unit_zero (S := S512x512) off_zero inb_S512x512_S512x512_0_0 x10]
  rw [View.ld_unit_zero (S := S512x512) off_zero inb_S512x512_S512x512_0_0 x11]
  rw [View.ld_unit_zero (S := S512x256) off_zero inb_S512x256_S512x256_0_0 x12]
  rw [View.ld_unit_zero (S := S512x256) off_zero inb_S512x256_S512x256_0_0 x13]
  rw [View.ld_unit_zero (S := S1x256) off_zero inb_S1x256_S1x256_0_0 x14]
  rw [View.ld_unit_zero (S := S256x256) off_zero inb_S256x256_S256x256_0_0 x15]
  rw [View.ld_unit_zero (S := S1x256) off_zero inb_S1x256_S1x256_0_0 x16]
  rw [View.ld_unit_zero (S := S256x1024) off_zero inb_S256x1024_S256x1024_0_0 x18]
  rw [View.ld_unit_zero (S := S512x1024) off_zero inb_S512x1024_S512x1024_0_0 x19]
  rw [View.ld_unit_zero (S := S256x1024) off_zero inb_S256x1024_S256x1024_0_0 x20]
  rw [View.ld_unit_zero (S := S1024x1024) off_zero inb_S1024x1024_S1024x1024_0_0 x21]

set_option maxHeartbeats 4000000 in
/-- A prompt point: the body stores its block in the prompt's buffer and leaves the samples' as it found it. -/
theorem run_prompt (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x256 .f32) (harg7 : arg7.IsWhole) (arg8 : Memref sig .tc .vmem S512x3072 .bf16) (harg8 : arg8.IsWhole) (arg9 : Memref sig .tc .vmem S512x256 .f32) (harg9 : arg9.IsWhole) (arg10 : Memref sig .tc .vmem S512x256 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S3x256 .f32) (harg18 : arg18.IsWhole) (arg19 : Memref sig .tc .vmem S256x1024 .bf16) (harg19 : arg19.IsWhole) (arg20 : Memref sig .tc .vmem S512x1024 .bf16) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S512x1024 .f32) (harg23 : arg23.IsWhole) (arg24 : Memref sig .tc .vmem S512x1024 .f32) (harg24 : arg24.IsWhole)
    (hc0 : k0_cond1 i = 1#1) (hc1 : ¬ k0_cond2 i = 1#1) (x0 : Vec F S512x1024 .f32) (x1 : Vec F S512x1024 .f32) (x2 : Vec F S512x256 .f32) (x3 : Vec F S512x256 .f32) (x4 : Vec F S512x256 .f32) (x5 : Vec F S512x256 .f32) (x6 : Vec F S8x256 .f32) (x7 : Vec F S512x3072 .bf16) (x8 : Vec F S512x256 .f32) (x9 : Vec F S512x256 .f32) (x10 : Vec F S512x512 .bf16) (x11 : Vec F S512x512 .bf16) (x12 : Vec F S512x256 .f32) (x13 : Vec F S512x256 .f32) (x14 : Vec F S1x256 .f32) (x15 : Vec F S256x256 .bf16) (x16 : Vec F S1x256 .f32) (x17 : Vec F S3x256 .f32) (x18 : Vec F S256x1024 .bf16) (x19 : Vec F S512x1024 .bf16) (x20 : Vec F S256x1024 .bf16) (x21 : Vec F S1024x1024 .bf16) (y : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ owns (c : Thread nD τ) arg24 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (block i x0 x1 x2 x3 x4 x5 x6 x7 x8 x9 x10 x11 x12 x13 x14 x15 x16 x17 x18 x19 x20 x21) ∗ owns (c : Thread nD τ) arg24 fullShare y) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_merge_eq_skeleton]; unfold cc0_merge_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hf23
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; swap; · iexact H22
    ipureintro; exact stored_eq harg1 harg2 harg3 harg4 harg5 harg6 harg7 harg8 harg9 harg10 harg11 harg12 harg13 harg14 harg15 harg16 harg17 harg18 harg19 harg20 harg21 harg22 _ _ i x0 x1 x2 x3 x4 x5 x6 x7 x8 x9 x10 x11 x12 x13 x14 x15 x16 x17 x18 x19 x20 x21
  iexists _; isplitr; · ipureintro; exact harg24.read_unread _
  iexact H23

set_option maxHeartbeats 4000000 in
/-- The sample point: the body stores its block in the samples' buffer and leaves the prompt's as it found it. -/
theorem run_sample (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x256 .f32) (harg7 : arg7.IsWhole) (arg8 : Memref sig .tc .vmem S512x3072 .bf16) (harg8 : arg8.IsWhole) (arg9 : Memref sig .tc .vmem S512x256 .f32) (harg9 : arg9.IsWhole) (arg10 : Memref sig .tc .vmem S512x256 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S3x256 .f32) (harg18 : arg18.IsWhole) (arg19 : Memref sig .tc .vmem S256x1024 .bf16) (harg19 : arg19.IsWhole) (arg20 : Memref sig .tc .vmem S512x1024 .bf16) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S512x1024 .f32) (harg23 : arg23.IsWhole) (arg24 : Memref sig .tc .vmem S512x1024 .f32) (harg24 : arg24.IsWhole)
    (hc0 : ¬ k0_cond1 i = 1#1) (hc1 : k0_cond2 i = 1#1) (x0 : Vec F S512x1024 .f32) (x1 : Vec F S512x1024 .f32) (x2 : Vec F S512x256 .f32) (x3 : Vec F S512x256 .f32) (x4 : Vec F S512x256 .f32) (x5 : Vec F S512x256 .f32) (x6 : Vec F S8x256 .f32) (x7 : Vec F S512x3072 .bf16) (x8 : Vec F S512x256 .f32) (x9 : Vec F S512x256 .f32) (x10 : Vec F S512x512 .bf16) (x11 : Vec F S512x512 .bf16) (x12 : Vec F S512x256 .f32) (x13 : Vec F S512x256 .f32) (x14 : Vec F S1x256 .f32) (x15 : Vec F S256x256 .bf16) (x16 : Vec F S1x256 .f32) (x17 : Vec F S3x256 .f32) (x18 : Vec F S256x1024 .bf16) (x19 : Vec F S512x1024 .bf16) (x20 : Vec F S256x1024 .bf16) (x21 : Vec F S1024x1024 .bf16) (y : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare y ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare y ∗ owns (c : Thread nD τ) arg24 fullShare (block i x0 x1 x2 x3 x4 x5 x6 x7 x8 x9 x10 x11 x12 x13 x14 x15 x16 x17 x18 x19 x20 x21)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_merge_eq_skeleton]; unfold cc0_merge_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  iexists _; isplitr; swap; · iexact H23
  ipureintro; exact stored_eq harg1 harg2 harg3 harg4 harg5 harg6 harg7 harg8 harg9 harg10 harg11 harg12 harg13 harg14 harg15 harg16 harg17 harg18 harg19 harg20 harg21 harg22 _ _ i x0 x1 x2 x3 x4 x5 x6 x7 x8 x9 x10 x11 x12 x13 x14 x15 x16 x17 x18 x19 x20 x21

/-! ## The pipeline's proof data -/

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S512x256 .f32 := win0_2.stage (cfg0.slots t 2)
abbrev ms3 (t : Fin cfg0.N) : Memref sig .tc .vmem S512x256 .f32 := win0_3.stage (cfg0.slots t 3)
abbrev ms4 (t : Fin cfg0.N) : Memref sig .tc .vmem S512x256 .f32 := win0_4.stage (cfg0.slots t 4)
abbrev ms5 (t : Fin cfg0.N) : Memref sig .tc .vmem S512x256 .f32 := win0_5.stage (cfg0.slots t 5)
abbrev ms6 (t : Fin cfg0.N) : Memref sig .tc .vmem S8x256 .f32 := win0_6.stage (cfg0.slots t 6)
abbrev ms7 (t : Fin cfg0.N) : Memref sig .tc .vmem S512x3072 .bf16 := win0_7.stage (cfg0.slots t 7)
abbrev ms8 (t : Fin cfg0.N) : Memref sig .tc .vmem S512x256 .f32 := win0_8.stage (cfg0.slots t 8)
abbrev ms9 (t : Fin cfg0.N) : Memref sig .tc .vmem S512x256 .f32 := win0_9.stage (cfg0.slots t 9)
abbrev ms10 (t : Fin cfg0.N) : Memref sig .tc .vmem S512x512 .bf16 := win0_10.stage (cfg0.slots t 10)
abbrev ms11 (t : Fin cfg0.N) : Memref sig .tc .vmem S512x512 .bf16 := win0_11.stage (cfg0.slots t 11)
abbrev ms12 (t : Fin cfg0.N) : Memref sig .tc .vmem S512x256 .f32 := win0_12.stage (cfg0.slots t 12)
abbrev ms13 (t : Fin cfg0.N) : Memref sig .tc .vmem S512x256 .f32 := win0_13.stage (cfg0.slots t 13)
abbrev ms14 (t : Fin cfg0.N) : Memref sig .tc .vmem S1x256 .f32 := win0_14.stage (cfg0.slots t 14)
abbrev ms15 (t : Fin cfg0.N) : Memref sig .tc .vmem S256x256 .bf16 := win0_15.stage (cfg0.slots t 15)
abbrev ms16 (t : Fin cfg0.N) : Memref sig .tc .vmem S1x256 .f32 := win0_16.stage (cfg0.slots t 16)
abbrev ms17 (t : Fin cfg0.N) : Memref sig .tc .vmem S3x256 .f32 := win0_17.stage (cfg0.slots t 17)
abbrev ms18 (t : Fin cfg0.N) : Memref sig .tc .vmem S256x1024 .bf16 := win0_18.stage (cfg0.slots t 18)
abbrev ms19 (t : Fin cfg0.N) : Memref sig .tc .vmem S512x1024 .bf16 := win0_19.stage (cfg0.slots t 19)
abbrev ms20 (t : Fin cfg0.N) : Memref sig .tc .vmem S256x1024 .bf16 := win0_20.stage (cfg0.slots t 20)
abbrev ms21 (t : Fin cfg0.N) : Memref sig .tc .vmem S1024x1024 .bf16 := win0_21.stage (cfg0.slots t 21)
abbrev ms22 (t : Fin cfg0.N) : Memref sig .tc .vmem S512x1024 .f32 := win0_22.stage (cfg0.slots t 22)
abbrev ms23 (t : Fin cfg0.N) : Memref sig .tc .vmem S512x1024 .f32 := win0_23.stage (cfg0.slots t 23)

/-- The block the body computes at a point. -/
def blockAt (c : Dev nD) (t : Fin cfg0.N) : Vec F S512x1024 .f32 :=
  block (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-- The last prompt point at or before a point. -/
def promptPoint (t : Fin cfg0.N) : Fin cfg0.N := ⟨min t.val 31, Nat.lt_of_le_of_lt (Nat.min_le_left _ _) t.isLt⟩

/-- The arrays as the region finds them; the inputs' buffers at their blocks; the prompt's buffer at the block of the last
    prompt point; the samples' at the block of its own point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => blockAt m c (promptPoint t)
    | ⟨23, _⟩ => blockAt m c t
    | ⟨_ + 24, h⟩ => absurd h (Nat.not_lt.2 (Nat.le_add_left _ _))
  Φ _ := Pipeline.ΦA spec0 c
  q w := Pipeline.shareOf spec0 w
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]
theorem after_9 (c : Dev nD) (t : Fin cfg0.N) : (data m 0 c).after 9 t = iblk m c 9 t := by dsimp only [data]
theorem after_10 (c : Dev nD) (t : Fin cfg0.N) : (data m 0 c).after 10 t = iblk m c 10 t := by dsimp only [data]
theorem after_11 (c : Dev nD) (t : Fin cfg0.N) : (data m 0 c).after 11 t = iblk m c 11 t := by dsimp only [data]
theorem after_12 (c : Dev nD) (t : Fin cfg0.N) : (data m 0 c).after 12 t = iblk m c 12 t := by dsimp only [data]
theorem after_13 (c : Dev nD) (t : Fin cfg0.N) : (data m 0 c).after 13 t = iblk m c 13 t := by dsimp only [data]
theorem after_14 (c : Dev nD) (t : Fin cfg0.N) : (data m 0 c).after 14 t = iblk m c 14 t := by dsimp only [data]
theorem after_15 (c : Dev nD) (t : Fin cfg0.N) : (data m 0 c).after 15 t = iblk m c 15 t := by dsimp only [data]
theorem after_16 (c : Dev nD) (t : Fin cfg0.N) : (data m 0 c).after 16 t = iblk m c 16 t := by dsimp only [data]
theorem after_17 (c : Dev nD) (t : Fin cfg0.N) : (data m 0 c).after 17 t = iblk m c 17 t := by dsimp only [data]
theorem after_18 (c : Dev nD) (t : Fin cfg0.N) : (data m 0 c).after 18 t = iblk m c 18 t := by dsimp only [data]
theorem after_19 (c : Dev nD) (t : Fin cfg0.N) : (data m 0 c).after 19 t = iblk m c 19 t := by dsimp only [data]
theorem after_20 (c : Dev nD) (t : Fin cfg0.N) : (data m 0 c).after 20 t = iblk m c 20 t := by dsimp only [data]
theorem after_21 (c : Dev nD) (t : Fin cfg0.N) : (data m 0 c).after 21 t = iblk m c 21 t := by dsimp only [data]
theorem after_22 (c : Dev nD) (t : Fin cfg0.N) : (data m 0 c).after 22 t = blockAt m c (promptPoint t) := by dsimp only [data]
theorem after_23 (c : Dev nD) (t : Fin cfg0.N) : (data m 0 c).after 23 t = blockAt m c t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d
theorem before_7 (c : Dev nD) (t : Fin cfg0.N) (d) : (data m 0 c).before 7 t d = iblk m c 7 t :=
  before0_7_of m (data m 0 c) (data_A m c 7) (after_7 m c) t d
theorem before_8 (c : Dev nD) (t : Fin cfg0.N) (d) : (data m 0 c).before 8 t d = iblk m c 8 t :=
  before0_8_of m (data m 0 c) (data_A m c 8) (after_8 m c) t d
theorem before_9 (c : Dev nD) (t : Fin cfg0.N) (d) : (data m 0 c).before 9 t d = iblk m c 9 t :=
  before0_9_of m (data m 0 c) (data_A m c 9) (after_9 m c) t d
theorem before_10 (c : Dev nD) (t : Fin cfg0.N) (d) : (data m 0 c).before 10 t d = iblk m c 10 t :=
  before0_10_of m (data m 0 c) (data_A m c 10) (after_10 m c) t d
theorem before_11 (c : Dev nD) (t : Fin cfg0.N) (d) : (data m 0 c).before 11 t d = iblk m c 11 t :=
  before0_11_of m (data m 0 c) (data_A m c 11) (after_11 m c) t d
theorem before_12 (c : Dev nD) (t : Fin cfg0.N) (d) : (data m 0 c).before 12 t d = iblk m c 12 t :=
  before0_12_of m (data m 0 c) (data_A m c 12) (after_12 m c) t d
theorem before_13 (c : Dev nD) (t : Fin cfg0.N) (d) : (data m 0 c).before 13 t d = iblk m c 13 t :=
  before0_13_of m (data m 0 c) (data_A m c 13) (after_13 m c) t d
theorem before_14 (c : Dev nD) (t : Fin cfg0.N) (d) : (data m 0 c).before 14 t d = iblk m c 14 t :=
  before0_14_of m (data m 0 c) (data_A m c 14) (after_14 m c) t d
theorem before_15 (c : Dev nD) (t : Fin cfg0.N) (d) : (data m 0 c).before 15 t d = iblk m c 15 t :=
  before0_15_of m (data m 0 c) (data_A m c 15) (after_15 m c) t d
theorem before_16 (c : Dev nD) (t : Fin cfg0.N) (d) : (data m 0 c).before 16 t d = iblk m c 16 t :=
  before0_16_of m (data m 0 c) (data_A m c 16) (after_16 m c) t d
theorem before_17 (c : Dev nD) (t : Fin cfg0.N) (d) : (data m 0 c).before 17 t d = iblk m c 17 t :=
  before0_17_of m (data m 0 c) (data_A m c 17) (after_17 m c) t d
theorem before_18 (c : Dev nD) (t : Fin cfg0.N) (d) : (data m 0 c).before 18 t d = iblk m c 18 t :=
  before0_18_of m (data m 0 c) (data_A m c 18) (after_18 m c) t d
theorem before_19 (c : Dev nD) (t : Fin cfg0.N) (d) : (data m 0 c).before 19 t d = iblk m c 19 t :=
  before0_19_of m (data m 0 c) (data_A m c 19) (after_19 m c) t d
theorem before_20 (c : Dev nD) (t : Fin cfg0.N) (d) : (data m 0 c).before 20 t d = iblk m c 20 t :=
  before0_20_of m (data m 0 c) (data_A m c 20) (after_20 m c) t d
theorem before_21 (c : Dev nD) (t : Fin cfg0.N) (d) : (data m 0 c).before 21 t d = iblk m c 21 t :=
  before0_21_of m (data m 0 c) (data_A m c 21) (after_21 m c) t d

theorem leaves_0 (c : Dev nD) (t : Fin cfg0.N) : (data m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (data m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (data m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (data m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (data m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (data m 0 c).leavesExact 5 t = owns (c : Thread nD τ) (ms5 t) fullShare (iblk m c 5 t) := by
  unfold Dat.leavesExact; rw [show cfg0.idle 5 (grid0.coords t) = false from rfl, after_5]
theorem leaves_6 (c : Dev nD) (t : Fin cfg0.N) : (data m 0 c).leavesExact 6 t = owns (c : Thread nD τ) (ms6 t) fullShare (iblk m c 6 t) := by
  unfold Dat.leavesExact; rw [show cfg0.idle 6 (grid0.coords t) = false from rfl, after_6]
theorem leaves_7 (c : Dev nD) (t : Fin cfg0.N) : (data m 0 c).leavesExact 7 t = owns (c : Thread nD τ) (ms7 t) fullShare (iblk m c 7 t) := by
  unfold Dat.leavesExact; rw [show cfg0.idle 7 (grid0.coords t) = false from rfl, after_7]
theorem leaves_8 (c : Dev nD) (t : Fin cfg0.N) : (data m 0 c).leavesExact 8 t = owns (c : Thread nD τ) (ms8 t) fullShare (iblk m c 8 t) := by
  unfold Dat.leavesExact; rw [show cfg0.idle 8 (grid0.coords t) = false from rfl, after_8]
theorem leaves_9 (c : Dev nD) (t : Fin cfg0.N) : (data m 0 c).leavesExact 9 t = owns (c : Thread nD τ) (ms9 t) fullShare (iblk m c 9 t) := by
  unfold Dat.leavesExact; rw [show cfg0.idle 9 (grid0.coords t) = false from rfl, after_9]
theorem leaves_10 (c : Dev nD) (t : Fin cfg0.N) : (data m 0 c).leavesExact 10 t = owns (c : Thread nD τ) (ms10 t) fullShare (iblk m c 10 t) := by
  unfold Dat.leavesExact; rw [show cfg0.idle 10 (grid0.coords t) = false from rfl, after_10]
theorem leaves_11 (c : Dev nD) (t : Fin cfg0.N) : (data m 0 c).leavesExact 11 t = owns (c : Thread nD τ) (ms11 t) fullShare (iblk m c 11 t) := by
  unfold Dat.leavesExact; rw [show cfg0.idle 11 (grid0.coords t) = false from rfl, after_11]
theorem leaves_12 (c : Dev nD) (t : Fin cfg0.N) : (data m 0 c).leavesExact 12 t = owns (c : Thread nD τ) (ms12 t) fullShare (iblk m c 12 t) := by
  unfold Dat.leavesExact; rw [show cfg0.idle 12 (grid0.coords t) = false from rfl, after_12]
theorem leaves_13 (c : Dev nD) (t : Fin cfg0.N) : (data m 0 c).leavesExact 13 t = owns (c : Thread nD τ) (ms13 t) fullShare (iblk m c 13 t) := by
  unfold Dat.leavesExact; rw [show cfg0.idle 13 (grid0.coords t) = false from rfl, after_13]
theorem leaves_14 (c : Dev nD) (t : Fin cfg0.N) : (data m 0 c).leavesExact 14 t = owns (c : Thread nD τ) (ms14 t) fullShare (iblk m c 14 t) := by
  unfold Dat.leavesExact; rw [show cfg0.idle 14 (grid0.coords t) = false from rfl, after_14]
theorem leaves_15 (c : Dev nD) (t : Fin cfg0.N) : (data m 0 c).leavesExact 15 t = owns (c : Thread nD τ) (ms15 t) fullShare (iblk m c 15 t) := by
  unfold Dat.leavesExact; rw [show cfg0.idle 15 (grid0.coords t) = false from rfl, after_15]
theorem leaves_16 (c : Dev nD) (t : Fin cfg0.N) : (data m 0 c).leavesExact 16 t = owns (c : Thread nD τ) (ms16 t) fullShare (iblk m c 16 t) := by
  unfold Dat.leavesExact; rw [show cfg0.idle 16 (grid0.coords t) = false from rfl, after_16]
theorem leaves_17 (c : Dev nD) (t : Fin cfg0.N) : (data m 0 c).leavesExact 17 t = owns (c : Thread nD τ) (ms17 t) fullShare (iblk m c 17 t) := by
  unfold Dat.leavesExact; rw [show cfg0.idle 17 (grid0.coords t) = false from rfl, after_17]
theorem leaves_18 (c : Dev nD) (t : Fin cfg0.N) : (data m 0 c).leavesExact 18 t = owns (c : Thread nD τ) (ms18 t) fullShare (iblk m c 18 t) := by
  unfold Dat.leavesExact; rw [show cfg0.idle 18 (grid0.coords t) = false from rfl, after_18]
theorem leaves_19 (c : Dev nD) (t : Fin cfg0.N) : (data m 0 c).leavesExact 19 t = owns (c : Thread nD τ) (ms19 t) fullShare (iblk m c 19 t) := by
  unfold Dat.leavesExact; rw [show cfg0.idle 19 (grid0.coords t) = false from rfl, after_19]
theorem leaves_20 (c : Dev nD) (t : Fin cfg0.N) : (data m 0 c).leavesExact 20 t = owns (c : Thread nD τ) (ms20 t) fullShare (iblk m c 20 t) := by
  unfold Dat.leavesExact; rw [show cfg0.idle 20 (grid0.coords t) = false from rfl, after_20]
theorem leaves_21 (c : Dev nD) (t : Fin cfg0.N) : (data m 0 c).leavesExact 21 t = owns (c : Thread nD τ) (ms21 t) fullShare (iblk m c 21 t) := by
  unfold Dat.leavesExact; rw [show cfg0.idle 21 (grid0.coords t) = false from rfl, after_21]

theorem promptPoint_of_lt {t : Fin cfg0.N} (h : t.val < 32) : promptPoint t = t :=
  Fin.ext (Nat.min_eq_left (by omega))

/-- At the last point the prompt's buffer holds what the point before left in it. -/
theorem before_22_last (c : Dev nD) (t : Fin cfg0.N) (h : t.val = 32) (d) :
    (data m 0 c).before 22 t d = blockAt m c (promptPoint t) := by
  rw [Dat.before_of_pos (data m 0 c) 22 t (by omega) (by rfl) d]
  rw [flush_22, if_neg (by simp [h])]
  unfold Dat.left
  rw [idle_22]
  rw [show (decide (((⟨t.val - 1, Nat.lt_of_le_of_lt (Nat.sub_le _ _) t.isLt⟩ : Fin cfg0.N)).val = 32)) = false from by simp [h]]
  show (data m 0 c).after 22 ⟨t.val - 1, Nat.lt_of_le_of_lt (Nat.sub_le _ _) t.isLt⟩ = _
  rw [after_22]
  exact congrArg (blockAt m c) (Fin.ext (by simp only [promptPoint]; omega))

/-! ## The body obligation -/

/-- What the body is called with at a point, -/
def bodyPre (c : Dev nD) (t : Fin cfg0.N) : sProp 𝕄 :=
  iprop((data m 0 c).Φ t.castSucc ∗ (data m 0 c).owesAt () t.castSucc
    ∗ (∃ d, owns (c : Thread nD τ) (ms0 t) fullShare ((data m 0 c).before 0 t d))
    ∗ (∃ d, owns (c : Thread nD τ) (ms1 t) fullShare ((data m 0 c).before 1 t d))
    ∗ (∃ d, owns (c : Thread nD τ) (ms2 t) fullShare ((data m 0 c).before 2 t d))
    ∗ (∃ d, owns (c : Thread nD τ) (ms3 t) fullShare ((data m 0 c).before 3 t d))
    ∗ (∃ d, owns (c : Thread nD τ) (ms4 t) fullShare ((data m 0 c).before 4 t d))
    ∗ (∃ d, owns (c : Thread nD τ) (ms5 t) fullShare ((data m 0 c).before 5 t d))
    ∗ (∃ d, owns (c : Thread nD τ) (ms6 t) fullShare ((data m 0 c).before 6 t d))
    ∗ (∃ d, owns (c : Thread nD τ) (ms7 t) fullShare ((data m 0 c).before 7 t d))
    ∗ (∃ d, owns (c : Thread nD τ) (ms8 t) fullShare ((data m 0 c).before 8 t d))
    ∗ (∃ d, owns (c : Thread nD τ) (ms9 t) fullShare ((data m 0 c).before 9 t d))
    ∗ (∃ d, owns (c : Thread nD τ) (ms10 t) fullShare ((data m 0 c).before 10 t d))
    ∗ (∃ d, owns (c : Thread nD τ) (ms11 t) fullShare ((data m 0 c).before 11 t d))
    ∗ (∃ d, owns (c : Thread nD τ) (ms12 t) fullShare ((data m 0 c).before 12 t d))
    ∗ (∃ d, owns (c : Thread nD τ) (ms13 t) fullShare ((data m 0 c).before 13 t d))
    ∗ (∃ d, owns (c : Thread nD τ) (ms14 t) fullShare ((data m 0 c).before 14 t d))
    ∗ (∃ d, owns (c : Thread nD τ) (ms15 t) fullShare ((data m 0 c).before 15 t d))
    ∗ (∃ d, owns (c : Thread nD τ) (ms16 t) fullShare ((data m 0 c).before 16 t d))
    ∗ (∃ d, owns (c : Thread nD τ) (ms17 t) fullShare ((data m 0 c).before 17 t d))
    ∗ (∃ d, owns (c : Thread nD τ) (ms18 t) fullShare ((data m 0 c).before 18 t d))
    ∗ (∃ d, owns (c : Thread nD τ) (ms19 t) fullShare ((data m 0 c).before 19 t d))
    ∗ (∃ d, owns (c : Thread nD τ) (ms20 t) fullShare ((data m 0 c).before 20 t d))
    ∗ (∃ d, owns (c : Thread nD τ) (ms21 t) fullShare ((data m 0 c).before 21 t d))
    ∗ (∃ d, owns (c : Thread nD τ) (ms22 t) fullShare ((data m 0 c).before 22 t d))
    ∗ (∃ d, owns (c : Thread nD τ) (ms23 t) fullShare ((data m 0 c).before 23 t d)))

/-- and what it returns. -/
def bodyPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t
    ∗ (data m 0 c).leavesExact 13 t
    ∗ (data m 0 c).leavesExact 14 t
    ∗ (data m 0 c).leavesExact 15 t
    ∗ (data m 0 c).leavesExact 16 t
    ∗ (data m 0 c).leavesExact 17 t
    ∗ (data m 0 c).leavesExact 18 t
    ∗ (data m 0 c).leavesExact 19 t
    ∗ (data m 0 c).leavesExact 20 t
    ∗ (data m 0 c).leavesExact 21 t
    ∗ (data m 0 c).leavesExact 22 t
    ∗ (data m 0 c).leavesExact 23 t)

set_option maxHeartbeats 6400000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21]
  rw [show (data m 0 c).Φ t.succ = (data m 0 c).Φ t.castSucc from rfl,
    show (data m 0 c).owesAt () t.succ = (data m 0 c).owesAt () t.castSucc from rfl]
  have hN : t.val < 33 := lt_of_lt_of_eq t.isLt (show cfg0.N = 33 from N_0)
  by_cases h : t.val < 32
  · have hf : (cfg0.win 23).flush t = false := by
      rw [Bool.eq_false_iff]; intro h'; have := (flush0_23 t).mp h'; omega
    rw [show (data m 0 c).leavesExact 22 t = owns (c : Thread nD τ) (ms22 t) fullShare (blockAt m c t) from by
        unfold Dat.leavesExact
        rw [show cfg0.idle 22 (cfg0.grid.coords t) = false from (idle_22 t).trans (decide_eq_false (by omega)), after_22, promptPoint_of_lt h],
      Dat.leavesExact_idle (data m 0 c) 23 t ((idle_23 t).trans (decide_eq_true h)) hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (run_prompt c (grid0.coords t) _ _ _ _ _ _ _ _ _ _ _ _ _ _ _ _ _ _ _ _ _ _ _ _ _ _ _ _ _ _ _ _ _ _ _ _ _ _ _ _ _ _ _ _ _ _ _ _ ((cond_prompt t).mpr h) (fun h' => absurd ((cond_sample t).mp h') (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [H23]; · iexact H23
    iintro ⟨H0, H1, H2, H3, H4, H5, H6, H7, H8, H9, H10, H11, H12, H13, H14, H15, H16, H17, H18, H19, H20, H21, H22, H23⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexists d23; iexact H23
  · have hl : t.val = 32 := by omega
    rw [show (data m 0 c).leavesExact 22 t = owns (c : Thread nD τ) (ms22 t) fullShare (blockAt m c (promptPoint t)) from by
        unfold Dat.leavesExact
        rw [show cfg0.idle 22 (cfg0.grid.coords t) = true from (idle_22 t).trans (decide_eq_true hl),
          show (cfg0.win 22).flush t = true from (flush_22 t).trans (decide_eq_true (by omega)), after_22],
      show (data m 0 c).leavesExact 23 t = owns (c : Thread nD τ) (ms23 t) fullShare (blockAt m c t) from by
        unfold Dat.leavesExact
        rw [show cfg0.idle 23 (cfg0.grid.coords t) = false from (idle_23 t).trans (decide_eq_false h), after_23]]
    simp only [before_22_last m c t hl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (run_sample c (grid0.coords t) _ _ _ _ _ _ _ _ _ _ _ _ _ _ _ _ _ _ _ _ _ _ _ _ _ _ _ _ _ _ _ _ _ _ _ _ _ _ _ _ _ _ _ _ _ _ _ _ (fun h' => h ((cond_prompt t).mp h')) ((cond_sample t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    iintro ⟨H0, H1, H2, H3, H4, H5, H6, H7, H8, H9, H10, H11, H12, H13, H14, H15, H16, H17, H18, H19, H20, H21, H22, H23⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (data (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
/-- The kernel runs to its end, its arrays at what the proof data says, every counter back at zero. -/
theorem run_all : θ_run defs (onTc (τ := τ) (main (F := F))) (s₀ m ρ) (fun r => Pipeline.FramePost cfgs (data m) 0 (V m) r ∧ r.2.sem = fun _ => 0) :=
  Pipeline.θ_run_frame_shared (Q' := _) cfgs (data m) (0 : Fin 1) launch₀0 defs₀ Variants.none m ρ main
    (hbody := fun c => (body_obligation m c).loose) (hq := fun _ _ _ => rfl)
    (howed := fun _ _ => rfl) (V := V m) (hmain := hmain m Variants.none) (hA := data_A m) (hΦ := fun _ _ => rfl)

theorem run_main : θ_run defs (onTc (τ := τ) (main (F := F))) (s₀ m ρ) (Pipeline.FramePost cfgs (data m) 0 (V m)) :=
  (θ_run defs _ _).mono (fun _ h => h.1) (run_all m ρ)

/-- The argument arrays end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (data m) (data_A m) (run_main m ρ))
    ((θ_run defs _ _).mono (fun _ h => h.2) (run_all m ρ))

end Cert.MergeIdeal.Hand

end
-- ==== Proof.MergePoint.lean ====
/- What one point of the merge kernel computes, at the ideal instance: the reference's terms at the rows of its block. -/
module

public import proofs.«01_k».proof.Proof.MergeShift
public import proofs.«01_k».proof.Proof.MergeRun
public import Idealize.ShloMosaic.Lib.Pipeline.ValueKit

@[expose] public section

set_option maxRecDepth 16384

noncomputable section

namespace Cert.MergeIdeal.Hand

open Cert.MergeIdeal Cert.MergeIdeal.Gen
open Idealize.ShloMosaic Idealize.ShloMosaic.TcCoe Idealize.SL.Sem
open Idealize.ShloMosaic.Pipeline (Dat)

variable (m : (ℓ : Loc nD τ sig) → Buf (Elt Ideal) ℓ)

/-! ## The samples' earlier rows, which the host lays out -/

open Cert.MergeReferenceIdeal.Read in
theorem host_v4 (c : Dev nD) (r : Fin 512) (j : Fin 256) :
    V m c main_v4 (ix2 r j) = val_main_v110 (F := Ideal) (m ((c : Thread nD τ).loc main_arg5)) (m ((c : Thread nD τ).loc main_arg11)) (idx_main_v124 (ix2 r j)) := by
  rw [val_main_v110_apply]
  have e : idx_main_v110 (idx_main_v124 (ix2 r j)) = ix3 ⟨r.val / 4, by omega⟩ ⟨r.val % 4 + 1, by omega⟩ j := by
    funext a; refine Fin.ext ?_
    match a with
    | ⟨0, _⟩ => show (r.val * 256 + j.val) / 1024 = r.val / 4; omega
    | ⟨1, _⟩ => show 1 + (r.val * 256 + j.val) / 256 % 4 = r.val % 4 + 1; omega
    | ⟨2, _⟩ => show (r.val * 256 + j.val) % 256 = j.val; omega
  rw [e, padded_sample]
  entry_read
  pointwise
  have hh : 1 + r.val % 4 = r.val % 4 + 1 := Nat.add_comm _ _
  simp only [hh]
  by_cases hc : r.val % 4 + 1 < 2
  · simp only [dif_pos hc]
  · simp only [dif_neg hc, Nat.add_assoc]

open Cert.MergeReferenceIdeal.Read in
theorem tap_one_sample (c : Dev nD) (t : Fin cfg0.N) (r : Fin 512) (j : Fin 256) :
    iblk m c 12 t (ix2 r j) = val_main_v110 (F := Ideal) (m ((c : Thread nD τ).loc main_arg5)) (m ((c : Thread nD τ).loc main_arg11)) (idx_main_v124 (ix2 r j)) := by
  refine Eq.trans ?_ (host_v4 m c r j)
  blk_simp [iblk, idx t]
  generalize V m c main_v4 = X
  blk_ext [idx t]

open Cert.MergeReferenceIdeal.Read in
theorem host_v6 (c : Dev nD) (r : Fin 512) (j : Fin 256) :
    V m c main_v6 (ix2 r j) = val_main_v104 (F := Ideal) (m ((c : Thread nD τ).loc main_arg5)) (m ((c : Thread nD τ).loc main_arg11)) (idx_main_v124 (ix2 r j)) := by
  rw [val_main_v104_apply]
  have e : idx_main_v104 (idx_main_v124 (ix2 r j)) = ix3 ⟨r.val / 4, by omega⟩ ⟨r.val % 4, by omega⟩ j := by
    funext a; refine Fin.ext ?_
    match a with
    | ⟨0, _⟩ => show (r.val * 256 + j.val) / 1024 = r.val / 4; omega
    | ⟨1, _⟩ => show (r.val * 256 + j.val) / 256 % 4 = r.val % 4; omega
    | ⟨2, _⟩ => show (r.val * 256 + j.val) % 256 = j.val; omega
  rw [e, padded_sample]
  entry_read
  pointwise
  by_cases hc : r.val % 4 < 2
  · simp only [dif_pos hc]
  · simp only [dif_neg hc, Nat.add_assoc]

open Cert.MergeReferenceIdeal.Read in
theorem tap_two_sample (c : Dev nD) (t : Fin cfg0.N) (r : Fin 512) (j : Fin 256) :
    iblk m c 13 t (ix2 r j) = val_main_v104 (F := Ideal) (m ((c : Thread nD τ).loc main_arg5)) (m ((c : Thread nD τ).loc main_arg11)) (idx_main_v124 (ix2 r j)) := by
  refine Eq.trans ?_ (host_v6 m c r j)
  blk_simp [iblk, idx t]
  generalize V m c main_v6 = X
  blk_ext [idx t]

open Cert.MergeReferenceIdeal.Read in
theorem tap_zero_sample (c : Dev nD) (t : Fin cfg0.N) (h : t.val = 32) (r : Fin 512) (j : Fin 256) :
    iblk m c 5 t (ix2 r j) = val_main_v117 (F := Ideal) (m ((c : Thread nD τ).loc main_arg5)) (m ((c : Thread nD τ).loc main_arg11)) (idx_main_v124 (ix2 r j)) := by
  rw [val_main_v117_apply]
  have e : idx_main_v117 (idx_main_v124 (ix2 r j)) = ix3 ⟨r.val / 4, by omega⟩ ⟨r.val % 4 + 2, by omega⟩ j := by
    funext a; refine Fin.ext ?_
    match a with
    | ⟨0, _⟩ => show (r.val * 256 + j.val) / 1024 = r.val / 4; omega
    | ⟨1, _⟩ => show 2 + (r.val * 256 + j.val) / 256 % 4 = r.val % 4 + 2; omega
    | ⟨2, _⟩ => show (r.val * 256 + j.val) % 256 = j.val; omega
  rw [e, padded_sample, dif_neg (show ¬ r.val % 4 + 2 < 2 by omega)]
  blk_ext [iblk, V, idx t]

/-! ## Parts of a block -/

/-- The convolved rows, gated: the part of the last payload before its product. -/
def convRows {F : FTy → Type} [FloatOps F] (v0 : BitVec 1) (v38 v70 v73 v74 : Vec F S512x256 .f32) (v77 v80 v84 : Vec F S1x256 .f32) (v88 : Vec F S512x256 .f32) : FVec F S512x256 .f32 :=
  mulf v88 (addf (addf (mulf (Scalar.select v0 v70 (shapeCast S512x256 v74 shapeCasts_S512x256_S512x256)) (broadcastTo S512x256 v77 broadcasts_S1x256_S512x256))
    (mulf v73 (broadcastTo S512x256 v80 broadcasts_S1x256_S512x256))) (mulf v38 (broadcastTo S512x256 v84 broadcasts_S1x256_S512x256)))

theorem product_eq {F : FTy → Type} [FloatOps F] (v0 : BitVec 1) (v38 v70 v73 v74 : Vec F S512x256 .f32) (v77 v80 v84 : Vec F S1x256 .f32) (v88 : Vec F S512x256 .f32)
    (v104 : Vec F S512x1024 .bf16) (v106 : Vec F S256x1024 .bf16) : k0_pay12 v0 v38 v70 v73 v74 v77 v80 v84 v88 v104 v106
      = mulf (extf .f32 v104 bitsLt_bf16_f32) (matmul dot_S512x256_S256x1024_S512x1024_1_0_0_1_n_n none
          (truncf .bf16 (convRows v0 v38 v70 v73 v74 v77 v80 v84 v88) bitsLt_bf16_f32)
          (shapeCast S256x1024 v106 shapeCasts_S256x1024_S256x1024) (constant S512x1024 .f32 0x00000000#32)) := rfl

theorem cube (a : EReal) : a * (a * a) = a * a * a := (mul_assoc a a a).symm

/-! ## The prompt -/

open Cert.MergeReferenceIdeal.Read in
theorem gelu_prompt (c : Dev nD) (t : Fin cfg0.N) (h : t.val < 32) (r : Fin 512) (j : Fin 256) :
    k0_pay3 (grid0.coords t) (iblk m c 8 t) (iblk m c 9 t) (iblk m c 14 t) (iblk m c 2 t) (iblk m c 3 t) (ix2 r j)
      = val_main_v20 (F := Ideal) (m ((c : Thread nD τ).loc main_arg2)) (m ((c : Thread nD τ).loc main_arg7)) (m ((c : Thread nD τ).loc main_arg12)) (ix2 ⟨512 * t.val + r.val, row_lt t r h⟩ j) := by
  unfold k0_pay3
  dsimp only
  rw [select_first t h, select_first t h]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst_0, val_main_cst_1, val_main_cst_2, val_main_cst_3]
  simp only [cube]
  blk_point [iblk, V, idx t]

open Cert.MergeReferenceIdeal.Read in
theorem ssm_prompt (c : Dev nD) (t : Fin cfg0.N) (h : t.val < 32) (r : Fin 512) (j : Fin 256) :
    k0_pay6 (k0_pay3 (grid0.coords t) (iblk m c 8 t) (iblk m c 9 t) (iblk m c 14 t) (iblk m c 2 t) (iblk m c 3 t))
      (k0_pay4 (grid0.coords t) (iblk m c 8 t) (iblk m c 9 t) (iblk m c 14 t) (iblk m c 2 t) (iblk m c 3 t) (iblk m c 15 t)) (k0_pay5 (iblk m c 16 t)) (ix2 r j)
      = val_main_v31 (F := Ideal) (m ((c : Thread nD τ).loc main_arg2)) (m ((c : Thread nD τ).loc main_arg7)) (m ((c : Thread nD τ).loc main_arg12)) (m ((c : Thread nD τ).loc main_arg13)) (m ((c : Thread nD τ).loc main_arg14)) (ix2 ⟨512 * t.val + r.val, row_lt t r h⟩ j) := by
  pointwise [k0_pay6, k0_pay4, k0_pay5]
  simp only [gelu_prompt m c t h]
  pointwise [val_main_v21, val_main_v22, val_main_v23, val_main_v24, val_main_v25, val_main_v26, val_main_v27, val_main_v28, val_main_v29, val_main_v30, val_main_v31, val_main_cst_4, val_main_cst_5]
  simp only [Ideal.logistic]
  generalize val_main_v20 (F := Ideal) (m ((c : Thread nD τ).loc main_arg2)) (m ((c : Thread nD τ).loc main_arg7)) (m ((c : Thread nD τ).loc main_arg12)) = G
  blk_point [iblk, V, idx t]

open Cert.MergeReferenceIdeal.Read in
theorem conv_prompt (c : Dev nD) (t : Fin cfg0.N) (h : t.val < 32) (r : Fin 512) (j : Fin 256) :
    convRows (Scalar.cmpi .slt (BitVec.ofNat 32 (grid0.coords t 0).val) 32#32) (iblk m c 5 t) (k0_pay9 (BitVec.ofNat 32 (grid0.coords t 0).val) (iblk m c 5 t) (iblk m c 6 t)) (k0_pay10 (BitVec.ofNat 32 (grid0.coords t 0).val) (Scalar.cmpi .slt (BitVec.ofNat 32 (grid0.coords t 0).val) 32#32) (iblk m c 5 t) (iblk m c 6 t) (iblk m c 12 t)) (iblk m c 13 t)
      (View.ld (S := S3x256) (iblk m c 17 t) (Rect.unit (s := S3x256) ![0, 0] S1x256.size inb_S3x256_S1x256_0_0)) (View.ld (S := S3x256) (iblk m c 17 t) (Rect.unit (s := S3x256) ![1, 0] S1x256.size inb_S3x256_S1x256_1_0)) (View.ld (S := S3x256) (iblk m c 17 t) (Rect.unit (s := S3x256) ![2, 0] S1x256.size inb_S3x256_S1x256_2_0))
      (iblk m c 4 t) (ix2 r j)
      = val_main_v55 (F := Ideal) (m ((c : Thread nD τ).loc main_arg4)) (m ((c : Thread nD τ).loc main_arg5)) (m ((c : Thread nD τ).loc main_arg15)) (ix2 ⟨512 * t.val + r.val, row_lt t r h⟩ j) := by
  unfold convRows
  rw [select_first t h]
  pointwise
  rw [tap_two m c t h, tap_one m c t h, tap_zero m c t h]
  simp only [val_main_v55_apply, val_main_v54_apply, val_main_v53_apply, val_main_v46_apply, val_main_v39_apply, val_main_v45_apply, val_main_v52_apply, val_main_v38_apply, val_main_v37_apply, val_main_v36_apply, val_main_v35_apply, val_main_v44_apply, val_main_v43_apply, val_main_v42_apply, val_main_v41_apply, val_main_v51_apply, val_main_v50_apply, val_main_v49_apply, val_main_v48_apply, val_main_v1_apply]
  have e0 : (idx_main_v35 (idx_main_v36 (idx_main_v37 (idx_main_v38 (idx_main_v54 (ix2 ⟨512 * t.val + r.val, row_lt t r h⟩ j)))))) = ix2 0 j := funext fun a => Fin.ext (by
    match a with
    | ⟨0, _⟩ => rfl
    | ⟨1, _⟩ => show ((512 * t.val + r.val) * 256 + j.val) % 256 % 256 = j.val; omega)
  rw [e0]
  have e1 : (idx_main_v41 (idx_main_v42 (idx_main_v43 (idx_main_v44 (idx_main_v54 (ix2 ⟨512 * t.val + r.val, row_lt t r h⟩ j)))))) = ix2 1 j := funext fun a => Fin.ext (by
    match a with
    | ⟨0, _⟩ => rfl
    | ⟨1, _⟩ => show ((512 * t.val + r.val) * 256 + j.val) % 256 % 256 = j.val; omega)
  rw [e1]
  have e2 : (idx_main_v48 (idx_main_v49 (idx_main_v50 (idx_main_v51 (idx_main_v54 (ix2 ⟨512 * t.val + r.val, row_lt t r h⟩ j)))))) = ix2 2 j := funext fun a => Fin.ext (by
    match a with
    | ⟨0, _⟩ => rfl
    | ⟨1, _⟩ => show ((512 * t.val + r.val) * 256 + j.val) % 256 % 256 = j.val; omega)
  rw [e2]
  generalize val_main_v34 (F := Ideal) (m ((c : Thread nD τ).loc main_arg5)) (idx_main_v54 (ix2 ⟨512 * t.val + r.val, row_lt t r h⟩ j)) = P0
  generalize val_main_v40 (F := Ideal) (m ((c : Thread nD τ).loc main_arg5)) (idx_main_v54 (ix2 ⟨512 * t.val + r.val, row_lt t r h⟩ j)) = P1
  generalize val_main_v47 (F := Ideal) (m ((c : Thread nD τ).loc main_arg5)) (idx_main_v54 (ix2 ⟨512 * t.val + r.val, row_lt t r h⟩ j)) = P2
  have e : idx_main_v1 (ix2 ⟨512 * t.val + r.val, row_lt t r h⟩ j) = ix2 ⟨512 * t.val + r.val, by have := lt_of_lt_of_eq t.isLt (show cfg0.N = 33 from N_0); omega⟩ j := funext fun a => Fin.ext (by
    match a with
    | ⟨0, _⟩ => show 512 * t.val + r.val = 512 * t.val + r.val; omega
    | ⟨1, _⟩ => rfl)
  rw [e]
  pointwise
  blk_point [iblk, V, idx t]

open Cert.MergeReferenceIdeal.Read in
/-- A prompt block at a row and column is the reference's result there. -/
theorem point_prompt (c : Dev nD) (t : Fin cfg0.N) (h : t.val < 32) (r : Fin 512) (j : Fin 1024) :
    block (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 r j)
      = val_main_v70 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 ⟨512 * t.val + r.val, row_lt t r h⟩ j) := by
  unfold block k0_pay1 k0_pay11 k0_pay2
  rw [product_eq]
  dsimp only
  rw [select_first t h, select_first t h]
  pointwise
  simp only [ssm_prompt m c t h, conv_prompt m c t h]
  pointwise [val_main_v56, val_main_v57, val_main_v58, val_main_v59, val_main_v60, val_main_v61, val_main_v62, val_main_v63, val_main_v64, val_main_v65, val_main_v66, val_main_v67, val_main_v68, val_main_v69, val_main_v70, val_main_v3]
  generalize val_main_v31 (F := Ideal) (m ((c : Thread nD τ).loc main_arg2)) (m ((c : Thread nD τ).loc main_arg7)) (m ((c : Thread nD τ).loc main_arg12)) (m ((c : Thread nD τ).loc main_arg13)) (m ((c : Thread nD τ).loc main_arg14)) = G
  generalize val_main_v55 (F := Ideal) (m ((c : Thread nD τ).loc main_arg4)) (m ((c : Thread nD τ).loc main_arg5)) (m ((c : Thread nD τ).loc main_arg15)) = C
  blk_point [iblk, V, idx t]

/-! ## The sample -/

open Cert.MergeReferenceIdeal.Read in
theorem gelu_sample (c : Dev nD) (t : Fin cfg0.N) (h : t.val = 32) (r : Fin 512) (j : Fin 256) :
    k0_pay3 (grid0.coords t) (iblk m c 8 t) (iblk m c 9 t) (iblk m c 14 t) (iblk m c 2 t) (iblk m c 3 t) (ix2 r j)
      = val_main_v90 (F := Ideal) (m ((c : Thread nD τ).loc main_arg3)) (m ((c : Thread nD τ).loc main_arg8)) (m ((c : Thread nD τ).loc main_arg12)) (ix2 r j) := by
  unfold k0_pay3
  dsimp only
  rw [select_second t h, select_second t h]
  pointwise [val_main_v74, val_main_v75, val_main_v76, val_main_v77, val_main_v78, val_main_v79, val_main_v80, val_main_v81, val_main_v82, val_main_v83, val_main_v84, val_main_v85, val_main_v86, val_main_v87, val_main_v88, val_main_v89, val_main_v90, val_main_cst_6, val_main_cst_7, val_main_cst_8, val_main_cst_9]
  simp only [cube]
  blk_point [iblk, V, idx t]

open Cert.MergeReferenceIdeal.Read in
theorem ssm_sample (c : Dev nD) (t : Fin cfg0.N) (h : t.val = 32) (r : Fin 512) (j : Fin 256) :
    k0_pay6 (k0_pay3 (grid0.coords t) (iblk m c 8 t) (iblk m c 9 t) (iblk m c 14 t) (iblk m c 2 t) (iblk m c 3 t))
      (k0_pay4 (grid0.coords t) (iblk m c 8 t) (iblk m c 9 t) (iblk m c 14 t) (iblk m c 2 t) (iblk m c 3 t) (iblk m c 15 t)) (k0_pay5 (iblk m c 16 t)) (ix2 r j)
      = val_main_v101 (F := Ideal) (m ((c : Thread nD τ).loc main_arg3)) (m ((c : Thread nD τ).loc main_arg8)) (m ((c : Thread nD τ).loc main_arg12)) (m ((c : Thread nD τ).loc main_arg13)) (m ((c : Thread nD τ).loc main_arg14)) (ix2 r j) := by
  pointwise [k0_pay6, k0_pay4, k0_pay5]
  simp only [gelu_sample m c t h]
  pointwise [val_main_v91, val_main_v92, val_main_v93, val_main_v94, val_main_v95, val_main_v96, val_main_v97, val_main_v98, val_main_v99, val_main_v100, val_main_v101, val_main_cst_10, val_main_cst_11]
  simp only [Ideal.logistic]
  generalize val_main_v90 (F := Ideal) (m ((c : Thread nD τ).loc main_arg3)) (m ((c : Thread nD τ).loc main_arg8)) (m ((c : Thread nD τ).loc main_arg12)) = G
  blk_point [iblk, V, idx t]

open Cert.MergeReferenceIdeal.Read in
theorem conv_sample (c : Dev nD) (t : Fin cfg0.N) (h : t.val = 32) (r : Fin 512) (j : Fin 256) :
    convRows (Scalar.cmpi .slt (BitVec.ofNat 32 (grid0.coords t 0).val) 32#32) (iblk m c 5 t) (k0_pay9 (BitVec.ofNat 32 (grid0.coords t 0).val) (iblk m c 5 t) (iblk m c 6 t)) (k0_pay10 (BitVec.ofNat 32 (grid0.coords t 0).val) (Scalar.cmpi .slt (BitVec.ofNat 32 (grid0.coords t 0).val) 32#32) (iblk m c 5 t) (iblk m c 6 t) (iblk m c 12 t)) (iblk m c 13 t)
      (View.ld (S := S3x256) (iblk m c 17 t) (Rect.unit (s := S3x256) ![0, 0] S1x256.size inb_S3x256_S1x256_0_0)) (View.ld (S := S3x256) (iblk m c 17 t) (Rect.unit (s := S3x256) ![1, 0] S1x256.size inb_S3x256_S1x256_1_0)) (View.ld (S := S3x256) (iblk m c 17 t) (Rect.unit (s := S3x256) ![2, 0] S1x256.size inb_S3x256_S1x256_2_0))
      (iblk m c 4 t) (ix2 r j)
      = val_main_v125 (F := Ideal) (m ((c : Thread nD τ).loc main_arg4)) (m ((c : Thread nD τ).loc main_arg5)) (m ((c : Thread nD τ).loc main_arg11)) (m ((c : Thread nD τ).loc main_arg15)) (ix2 r j) := by
  unfold convRows
  rw [select_second t h]
  pointwise
  rw [prev_one_sample t h, tap_two_sample, tap_one_sample, tap_zero_sample m c t h]
  simp only [val_main_v125_apply, val_main_v124_apply, val_main_v123_apply, val_main_v116_apply, val_main_v109_apply, val_main_v115_apply, val_main_v122_apply, val_main_v108_apply, val_main_v107_apply, val_main_v106_apply, val_main_v105_apply, val_main_v114_apply, val_main_v113_apply, val_main_v112_apply, val_main_v111_apply, val_main_v121_apply, val_main_v120_apply, val_main_v119_apply, val_main_v118_apply, val_main_v71_apply]
  have e0 : (idx_main_v105 (idx_main_v106 (idx_main_v107 (idx_main_v108 (idx_main_v124 (ix2 r j)))))) = ix2 0 j := funext fun a => Fin.ext (by
    match a with
    | ⟨0, _⟩ => rfl
    | ⟨1, _⟩ => show ((r.val) * 256 + j.val) % 256 % 256 = j.val; omega)
  rw [e0]
  have e1 : (idx_main_v111 (idx_main_v112 (idx_main_v113 (idx_main_v114 (idx_main_v124 (ix2 r j)))))) = ix2 1 j := funext fun a => Fin.ext (by
    match a with
    | ⟨0, _⟩ => rfl
    | ⟨1, _⟩ => show ((r.val) * 256 + j.val) % 256 % 256 = j.val; omega)
  rw [e1]
  have e2 : (idx_main_v118 (idx_main_v119 (idx_main_v120 (idx_main_v121 (idx_main_v124 (ix2 r j)))))) = ix2 2 j := funext fun a => Fin.ext (by
    match a with
    | ⟨0, _⟩ => rfl
    | ⟨1, _⟩ => show ((r.val) * 256 + j.val) % 256 % 256 = j.val; omega)
  rw [e2]
  generalize val_main_v104 (F := Ideal) (m ((c : Thread nD τ).loc main_arg5)) (m ((c : Thread nD τ).loc main_arg11)) (idx_main_v124 (ix2 r j)) = P0
  generalize val_main_v110 (F := Ideal) (m ((c : Thread nD τ).loc main_arg5)) (m ((c : Thread nD τ).loc main_arg11)) (idx_main_v124 (ix2 r j)) = P1
  generalize val_main_v117 (F := Ideal) (m ((c : Thread nD τ).loc main_arg5)) (m ((c : Thread nD τ).loc main_arg11)) (idx_main_v124 (ix2 r j)) = P2
  have e : idx_main_v71 (ix2 r j) = ix2 ⟨512 * t.val + r.val, by have := lt_of_lt_of_eq t.isLt (show cfg0.N = 33 from N_0); omega⟩ j := funext fun a => Fin.ext (by
    match a with
    | ⟨0, _⟩ => show 16384 + r.val = 512 * t.val + r.val; omega
    | ⟨1, _⟩ => rfl)
  rw [e]
  pointwise
  blk_point [iblk, V, idx t]

open Cert.MergeReferenceIdeal.Read in
/-- A sample block at a row and column is the reference's result there. -/
theorem point_sample (c : Dev nD) (t : Fin cfg0.N) (h : t.val = 32) (r : Fin 512) (j : Fin 1024) :
    block (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 r j)
      = val_main_v140 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 r j) := by
  unfold block k0_pay1 k0_pay11 k0_pay2
  rw [product_eq]
  dsimp only
  rw [select_second t h, select_second t h]
  pointwise
  simp only [ssm_sample m c t h, conv_sample m c t h]
  pointwise [val_main_v126, val_main_v127, val_main_v128, val_main_v129, val_main_v130, val_main_v131, val_main_v132, val_main_v133, val_main_v134, val_main_v135, val_main_v136, val_main_v137, val_main_v138, val_main_v139, val_main_v140, val_main_v73]
  generalize val_main_v101 (F := Ideal) (m ((c : Thread nD τ).loc main_arg3)) (m ((c : Thread nD τ).loc main_arg8)) (m ((c : Thread nD τ).loc main_arg12)) (m ((c : Thread nD τ).loc main_arg13)) (m ((c : Thread nD τ).loc main_arg14)) = G
  generalize val_main_v125 (F := Ideal) (m ((c : Thread nD τ).loc main_arg4)) (m ((c : Thread nD τ).loc main_arg5)) (m ((c : Thread nD τ).loc main_arg11)) (m ((c : Thread nD τ).loc main_arg15)) = C
  blk_point [iblk, V, idx t]

end Cert.MergeIdeal.Hand

end
-- ==== Proof.MergeValue.lean ====
/- What the merge kernel leaves in its two results, at the ideal instance: the reference's terms of the arguments. -/
module

public import proofs.«01_k».proof.Proof.MergePoint

@[expose] public section

set_option maxRecDepth 16384

noncomputable section

namespace Cert.MergeIdeal.Hand

open Cert.MergeIdeal Cert.MergeIdeal.Gen
open Idealize.ShloMosaic Idealize.ShloMosaic.TcCoe Idealize.SL.Sem
open Idealize.ShloMosaic.Pipeline (Dat)

variable (m : (ℓ : Loc nD τ sig) → Buf (Elt Ideal) ℓ)

theorem two_coords (y : S512x1024.Idx) : ix2 (y 0) (y 1) = y := funext fun a => by
  match a with
  | ⟨0, _⟩ => rfl
  | ⟨1, _⟩ => rfl

open Cert.MergeReferenceIdeal.Read in
theorem block_prompt (c : Dev nD) (t : Fin cfg0.N) (h : t.val < 32) (y : S512x1024.Idx) : blockAt m c t y
    = val_main_v70 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (((cfg0.win 22).blk t).view.emb y) := by
  have e := point_prompt m c t h (y 0) (y 1)
  have e0 : blockAt m c t y = blockAt m c t (ix2 (y 0) (y 1)) := congrArg (blockAt m c t) (two_coords y).symm
  refine e0.trans (e.trans (congrArg _ ?_))
  blk_ext [idx t]

open Cert.MergeReferenceIdeal.Read in
theorem block_sample (c : Dev nD) (t : Fin cfg0.N) (h : t.val = 32) (y : S512x1024.Idx) : blockAt m c t y
    = val_main_v140 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (((cfg0.win 23).blk t).view.emb y) := by
  have e := point_sample m c t h (y 0) (y 1)
  have e0 : blockAt m c t y = blockAt m c t (ix2 (y 0) (y 1)) := congrArg (blockAt m c t) (two_coords y).symm
  refine e0.trans (e.trans (congrArg _ ?_))
  blk_ext [idx t]

open Cert.MergeReferenceIdeal.Read in
/-- The prompt's result after the run. -/
theorem final_prompt (c : Dev nD) : (data m 0 c).arrAt 22 (cfgs 0).N
    = val_main_v70 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (data m 0 c).arrAt_eq_of_covers 22 _ (by decide +kernel) fun t _ y => ?_
  blk_simp
  rw [after_22]
  refine (block_prompt m c (promptPoint t) (by simp only [promptPoint]; omega) y).trans (congrArg _ ?_)
  have hp : (promptPoint t).val = min t.val 31 := rfl
  blk_ext [idx t, idx (promptPoint t)]

open Cert.MergeReferenceIdeal.Read in
/-- The samples' result after the run. -/
theorem final_sample (c : Dev nD) : (data m 0 c).arrAt 23 (cfgs 0).N
    = val_main_v140 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (data m 0 c).arrAt_eq_of_covers 23 _ (by decide +kernel) fun t hf y => ?_
  blk_simp
  rw [after_23]
  exact block_sample m c t (by have := (flush0_23 t).mp hf; have := lt_of_lt_of_eq t.isLt (show cfg0.N = 33 from N_0); omega) y

end Cert.MergeIdeal.Hand

end
-- ==== Proof.MergeClaim.lean ====
/- The claims about the merge kernel and its reference. -/
module

public import proofs.«01_k».proof.Defs
public import proofs.«01_k».proof.Proof.MergeValue
public import proofs.«01_k».proof.Proof.MergeRunBits
public import Idealize.ShloMosaic.Lib.Claim
public import Idealize.ShloMosaic.Adequacy
public import Idealize.ShloMosaic.Init

@[expose] public section

set_option maxRecDepth 16384

noncomputable section

namespace Cert.MergeClaim

open Idealize.ShloMosaic Idealize.SL.Sem

theorem frame_kernel : Cert.quiescent_Merge := fun m g _ => Cert.Merge.Hand.quiescent m g

theorem frame_ideal : Cert.quiescent_MergeIdeal := fun m g _ => Cert.MergeIdeal.Hand.quiescent m g

theorem frame_reference : Cert.quiescent_MergeReferenceIdeal := fun m g _ =>
  (θ_run Cert.MergeReferenceIdeal.defs _ _).mono (fun r h => ⟨fun c => (h c).2.2, sem_eq_zero_of_no_sems (by decide) r.2⟩)
    (Cert.MergeReferenceIdeal.Value.run (F := Ideal) m g)

/-- Both programs end with the same two results: the kernel's by its own run, read block by block, and the reference's
by its list of operations. -/
theorem algebraic : Cert.algebraic_MergeIdeal_MergeReferenceIdeal := by
  intro m g m' g' _ hargs
  refine ⟨fun c => (Cert.MergeIdeal.Hand.data m 0 c).arrAt 22 (Cert.MergeIdeal.cfgs 0).N,
    fun c => (Cert.MergeIdeal.Hand.data m 0 c).arrAt 23 (Cert.MergeIdeal.cfgs 0).N, ?_, ?_⟩
  · exact (θ_run Cert.MergeIdeal.defs _ _).mono (fun r h c => ⟨(h.1 c).1 22, (h.1 c).1 23, h.2.1 c⟩)
      (θ_run_and (Cert.MergeIdeal.Hand.run_main m g) (Cert.MergeIdeal.Hand.quiescent m g))
  · refine (θ_run Cert.MergeReferenceIdeal.defs _ _).mono (fun r h c => ⟨?_, ?_, (h c).2.2⟩)
      (Cert.MergeReferenceIdeal.Value.run (F := Ideal) m' g')
    · obtain ⟨a0, a1, a2, a3, a4, a5, a6, a7, a8, a9, a10, a11, a12, a13, a14, a15, a16, a17, a18, a19⟩ := hargs c
      refine ((h c).1.trans (Cert.MergeReferenceIdeal.Read.val_main_v70_eq (F := Ideal) m' c)).trans (Eq.trans ?_ (Cert.MergeIdeal.Hand.final_prompt m c).symm)
      rw [a0, a2, a4, a5, a6, a7, a9, a12, a13, a14, a15, a16, a17, a18, a19]
    · obtain ⟨a0, a1, a2, a3, a4, a5, a6, a7, a8, a9, a10, a11, a12, a13, a14, a15, a16, a17, a18, a19⟩ := hargs c
      refine ((h c).2.1.trans (Cert.MergeReferenceIdeal.Read.val_main_v140_eq (F := Ideal) m' c)).trans (Eq.trans ?_ (Cert.MergeIdeal.Hand.final_sample m c).symm)
      rw [a1, a3, a4, a5, a6, a8, a10, a11, a12, a13, a14, a15, a16, a17, a18, a19]

end Cert.MergeClaim

end
-- ==== Proof.lean ====
/- The claims about the dense channel mixer, the experts' blocks and the three branches' merge, put together. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.Gen.Pre_moe_tables
public import proofs.«01_k».proof.Proof.Gen.On_moe_filled_rows
public import proofs.«01_k».proof.Proof.FfnClaim
public import proofs.«01_k».proof.Proof.MoeClaim
public import proofs.«01_k».proof.Proof.MergeClaim
public import Idealize.ShloMosaic.Adequacy
public import Idealize.ShloMosaic.Init

@[expose] public section

noncomputable section

namespace Cert.Proof

open Idealize.ShloMosaic Idealize.SL.Sem Cert.Ffn

theorem claim : Cert.Claim :=
  ⟨Cert.Ffn.Gen.facts, Cert.FfnIdeal.Gen.facts, Cert.FfnReferenceIdeal.Gen.facts, Cert.Moe.Gen.facts, Cert.MoeIdeal.Gen.facts,
    Cert.MoeReferenceIdeal.Gen.facts, Cert.Merge.Gen.facts, Cert.MergeIdeal.Gen.facts, Cert.MergeReferenceIdeal.Gen.facts,
    Cert.Pre_moe_tables.Gen.facts, Cert.On_moe_filled_rows.Gen.facts,
    Cert.FfnClaim.frame_kernel, Cert.FfnClaim.frame_ideal, Cert.FfnClaim.frame_reference,
    Cert.MoeClaim.frame_kernel, Cert.MoeClaim.frame_ideal, Cert.MoeClaim.frame_reference,
    Cert.MergeClaim.frame_kernel, Cert.MergeClaim.frame_ideal, Cert.MergeClaim.frame_reference,
    trivial, Cert.FfnClaim.algebraic, trivial, Cert.MoeClaim.algebraic, trivial, Cert.MergeClaim.algebraic⟩

end Cert.Proof

end
